-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![1024, 512]⟩ ⟨2, ![8192, 512]⟩ 0 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1024x512 : Shape := ⟨2, ![1024, 512]⟩
abbrev S512x1024 : Shape := ⟨2, ![512, 1024]⟩
abbrev S8192x1024 : Shape := ⟨2, ![8192, 1024]⟩
abbrev S8x512x512 : Shape := ⟨3, ![8, 512, 512]⟩
abbrev S7x2 : Shape := ⟨2, ![7, 2]⟩
abbrev S_ : Shape := ⟨0, ![]⟩
abbrev S512x512 : Shape := ⟨2, ![512, 512]⟩
abbrev S1x512x512 : Shape := ⟨3, ![1, 512, 512]⟩
abbrev S1x1 : Shape := ⟨2, ![1, 1]⟩
abbrev S1x256x512 : Shape := ⟨3, ![1, 256, 512]⟩
abbrev S256x512 : Shape := ⟨2, ![256, 512]⟩

abbrev nBuf : Space → Nat
  | .hbm => 3
  | .vmem => 5
  | .smem => 0
  | _ => 0

abbrev bufTy : (tb : Table) → Fin (tcTables nBuf tb) → BufTy
  | .hbm, ⟨0, _⟩ => ⟨S1024x512, .bf16⟩
  | .hbm, ⟨1, _⟩ => ⟨S512x1024, .bf16⟩
  | .hbm, ⟨2, _⟩ => ⟨S8192x1024, .f32⟩
  | .local _ .vmem, ⟨0, _⟩ => ⟨S1024x512, .bf16⟩
  | .local _ .vmem, ⟨1, _⟩ => ⟨S512x1024, .bf16⟩
  | .local _ .vmem, ⟨2, _⟩ => ⟨S8192x1024, .f32⟩
  | .local _ .vmem, ⟨3, _⟩ => ⟨S8x512x512, .bf16⟩
  | .local _ .vmem, ⟨4, _⟩ => ⟨S8x512x512, .bf16⟩
  | _, _ => ⟨S1024x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 1 → Bool
  | ⟨0, _⟩ => false
  | _ => false

abbrev dmaSemScoped : Fin 59 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | _ => false

abbrev sig : RefSig :=
  (ofTc nBuf bufTy 1 59 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_sem0_0 : DmaSem sig := 0
abbrev cc0_sem1_0 : DmaSem sig := 1
abbrev cc0_sem2_0 : DmaSem sig := 2
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_6 : BitVec 32 := 1#32
  let v9 : BitVec 32 := Scalar.muli v5 c1_i32_6
  let v10 : BitVec 32 := Scalar.addi c0_i32 v9
  v10.toNat
def k0_dev2 (d0 : Dev nD) : Nat :=
  let c0_i32_9 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_8 : BitVec 32 := 1#32
  let v11 : BitVec 32 := Scalar.muli v7 c1_i32_8
  let v12 : BitVec 32 := Scalar.addi c0_i32_9 v11
  v12.toNat
def k0_dev3 (d0 : Dev nD) : Nat :=
  let c0_i32_25 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_24 : BitVec 32 := 1#32
  let v25 : BitVec 32 := Scalar.muli v7 c1_i32_24
  let v26 : BitVec 32 := Scalar.addi c0_i32_25 v25
  v26.toNat
def k0_dev4 (d0 : Dev nD) : Nat :=
  let c0_i32_37 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_36 : BitVec 32 := 1#32
  let v35 : BitVec 32 := Scalar.muli v5 c1_i32_36
  let v36 : BitVec 32 := Scalar.addi c0_i32_37 v35
  v36.toNat
def k0_dev5 (d0 : Dev nD) : Nat :=
  let c0_i32_49 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_48 : BitVec 32 := 1#32
  let v45 : BitVec 32 := Scalar.muli v7 c1_i32_48
  let v46 : BitVec 32 := Scalar.addi c0_i32_49 v45
  v46.toNat
def k0_dev6 (d0 : Dev nD) : Nat :=
  let c0_i32_60 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_59 : BitVec 32 := 1#32
  let v55 : BitVec 32 := Scalar.muli v5 c1_i32_59
  let v56 : BitVec 32 := Scalar.addi c0_i32_60 v55
  v56.toNat
def k0_off1 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1024_i32 : BitVec 32 := 1024#32
  let v68 : BitVec 32 := Scalar.muli v2 c1024_i32
  let v69 : Index := Scalar.indexCast v68
  let c0_68 : Index := 0#32
  ![v69.toNat, 0]
def k0_off2 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1024_i32_73 : BitVec 32 := 1024#32
  let v74 : BitVec 32 := Scalar.muli v2 c1024_i32_73
  let c512_i32 : BitVec 32 := 512#32
  let v75 : BitVec 32 := Scalar.addi v74 c512_i32
  let v76 : Index := Scalar.indexCast v75
  let c0_74 : Index := 0#32
  ![v76.toNat, 0]
def k0_dev7 (d0 : Dev nD) : Nat :=
  let c0_i32_106 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_105 : BitVec 32 := 1#32
  let v94 : BitVec 32 := Scalar.muli v7 c1_i32_105
  let v95 : BitVec 32 := Scalar.addi c0_i32_106 v94
  v95.toNat
def k0_dev8 (d0 : Dev nD) : Nat :=
  let c0_i32_118 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_117 : BitVec 32 := 1#32
  let v104 : BitVec 32 := Scalar.muli v5 c1_i32_117
  let v105 : BitVec 32 := Scalar.addi c0_i32_118 v104
  v105.toNat
def k0_dev9 (d0 : Dev nD) : Nat :=
  let c0_i32_154 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_153 : BitVec 32 := 1#32
  let v130 : BitVec 32 := Scalar.muli v7 c1_i32_153
  let v131 : BitVec 32 := Scalar.addi c0_i32_154 v130
  v131.toNat
def k0_dev10 (d0 : Dev nD) : Nat :=
  let c0_i32_166 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_165 : BitVec 32 := 1#32
  let v140 : BitVec 32 := Scalar.muli v5 c1_i32_165
  let v141 : BitVec 32 := Scalar.addi c0_i32_166 v140
  v141.toNat
def k0_off3 (d0 : Dev nD) (c0_i32_171 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v150 : BitVec 32 := Scalar.subi v2 c0_i32_171
  let c1_i32_172 : BitVec 32 := 1#32
  let v151 : BitVec 32 := Scalar.subi v150 c1_i32_172
  let c8_i32_173 : BitVec 32 := 8#32
  let v152 : BitVec 32 := Scalar.addi v151 c8_i32_173
  let c8_i32_174 : BitVec 32 := 8#32
  let v153 : BitVec 32 := Scalar.remsi v152 c8_i32_174
  let c1024_i32_182 : BitVec 32 := 1024#32
  let v160 : BitVec 32 := Scalar.muli v153 c1024_i32_182
  let v161 : Index := Scalar.indexCast v160
  let c0_183 : Index := 0#32
  ![v161.toNat, 0]
def k0_off4 (d0 : Dev nD) (c0_i32_175 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v154 : BitVec 32 := Scalar.addi v2 c0_i32_175
  let c1_i32_176 : BitVec 32 := 1#32
  let v155 : BitVec 32 := Scalar.addi v154 c1_i32_176
  let c8_i32_177 : BitVec 32 := 8#32
  let v156 : BitVec 32 := Scalar.remsi v155 c8_i32_177
  let c1024_i32_188 : BitVec 32 := 1024#32
  let v166 : BitVec 32 := Scalar.muli v156 c1024_i32_188
  let c512_i32_189 : BitVec 32 := 512#32
  let v167 : BitVec 32 := Scalar.addi v166 c512_i32_189
  let v168 : Index := Scalar.indexCast v167
  let c0_190 : Index := 0#32
  ![v168.toNat, 0]
def k0_dev11 (d0 : Dev nD) : Nat :=
  let c0_i32_266 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_265 : BitVec 32 := 1#32
  let v210 : BitVec 32 := Scalar.muli v7 c1_i32_265
  let v211 : BitVec 32 := Scalar.addi c0_i32_266 v210
  v211.toNat
def k0_dev12 (d0 : Dev nD) : Nat :=
  let c0_i32_278 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_277 : BitVec 32 := 1#32
  let v220 : BitVec 32 := Scalar.muli v5 c1_i32_277
  let v221 : BitVec 32 := Scalar.addi c0_i32_278 v220
  v221.toNat
def k0_dev13 (d0 : Dev nD) : Nat :=
  let c0_i32_314 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_313 : BitVec 32 := 1#32
  let v246 : BitVec 32 := Scalar.muli v7 c1_i32_313
  let v247 : BitVec 32 := Scalar.addi c0_i32_314 v246
  v247.toNat
def k0_dev14 (d0 : Dev nD) : Nat :=
  let c0_i32_326 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_325 : BitVec 32 := 1#32
  let v256 : BitVec 32 := Scalar.muli v5 c1_i32_325
  let v257 : BitVec 32 := Scalar.addi c0_i32_326 v256
  v257.toNat
def k0_dev15 (d0 : Dev nD) : Nat :=
  let c0_i32_424 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_423 : BitVec 32 := 1#32
  let v326 : BitVec 32 := Scalar.muli v7 c1_i32_423
  let v327 : BitVec 32 := Scalar.addi c0_i32_424 v326
  v327.toNat
def k0_dev16 (d0 : Dev nD) : Nat :=
  let c0_i32_436 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_435 : BitVec 32 := 1#32
  let v336 : BitVec 32 := Scalar.muli v5 c1_i32_435
  let v337 : BitVec 32 := Scalar.addi c0_i32_436 v336
  v337.toNat
def k0_dev17 (d0 : Dev nD) : Nat :=
  let c0_i32_472 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_471 : BitVec 32 := 1#32
  let v362 : BitVec 32 := Scalar.muli v7 c1_i32_471
  let v363 : BitVec 32 := Scalar.addi c0_i32_472 v362
  v363.toNat
def k0_dev18 (d0 : Dev nD) : Nat :=
  let c0_i32_484 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_483 : BitVec 32 := 1#32
  let v372 : BitVec 32 := Scalar.muli v5 c1_i32_483
  let v373 : BitVec 32 := Scalar.addi c0_i32_484 v372
  v373.toNat
def k0_dev19 (d0 : Dev nD) : Nat :=
  let c0_i32_582 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_581 : BitVec 32 := 1#32
  let v442 : BitVec 32 := Scalar.muli v7 c1_i32_581
  let v443 : BitVec 32 := Scalar.addi c0_i32_582 v442
  v443.toNat
def k0_dev20 (d0 : Dev nD) : Nat :=
  let c0_i32_594 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_593 : BitVec 32 := 1#32
  let v452 : BitVec 32 := Scalar.muli v5 c1_i32_593
  let v453 : BitVec 32 := Scalar.addi c0_i32_594 v452
  v453.toNat
def k0_dev21 (d0 : Dev nD) : Nat :=
  let c0_i32_630 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_629 : BitVec 32 := 1#32
  let v478 : BitVec 32 := Scalar.muli v7 c1_i32_629
  let v479 : BitVec 32 := Scalar.addi c0_i32_630 v478
  v479.toNat
def k0_dev22 (d0 : Dev nD) : Nat :=
  let c0_i32_642 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_641 : BitVec 32 := 1#32
  let v488 : BitVec 32 := Scalar.muli v5 c1_i32_641
  let v489 : BitVec 32 := Scalar.addi c0_i32_642 v488
  v489.toNat
def k0_dev23 (d0 : Dev nD) : Nat :=
  let c0_i32_740 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_739 : BitVec 32 := 1#32
  let v558 : BitVec 32 := Scalar.muli v7 c1_i32_739
  let v559 : BitVec 32 := Scalar.addi c0_i32_740 v558
  v559.toNat
def k0_dev24 (d0 : Dev nD) : Nat :=
  let c0_i32_752 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_751 : BitVec 32 := 1#32
  let v568 : BitVec 32 := Scalar.muli v5 c1_i32_751
  let v569 : BitVec 32 := Scalar.addi c0_i32_752 v568
  v569.toNat
def k0_dev25 (d0 : Dev nD) : Nat :=
  let c0_i32_788 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_787 : BitVec 32 := 1#32
  let v594 : BitVec 32 := Scalar.muli v7 c1_i32_787
  let v595 : BitVec 32 := Scalar.addi c0_i32_788 v594
  v595.toNat
def k0_dev26 (d0 : Dev nD) : Nat :=
  let c0_i32_800 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_799 : BitVec 32 := 1#32
  let v604 : BitVec 32 := Scalar.muli v5 c1_i32_799
  let v605 : BitVec 32 := Scalar.addi c0_i32_800 v604
  v605.toNat
def k0_dev27 (d0 : Dev nD) : Nat :=
  let c0_i32_898 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_897 : BitVec 32 := 1#32
  let v674 : BitVec 32 := Scalar.muli v7 c1_i32_897
  let v675 : BitVec 32 := Scalar.addi c0_i32_898 v674
  v675.toNat
def k0_dev28 (d0 : Dev nD) : Nat :=
  let c0_i32_910 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_909 : BitVec 32 := 1#32
  let v684 : BitVec 32 := Scalar.muli v5 c1_i32_909
  let v685 : BitVec 32 := Scalar.addi c0_i32_910 v684
  v685.toNat
def k0_dev29 (d0 : Dev nD) : Nat :=
  let c0_i32_946 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_945 : BitVec 32 := 1#32
  let v710 : BitVec 32 := Scalar.muli v7 c1_i32_945
  let v711 : BitVec 32 := Scalar.addi c0_i32_946 v710
  v711.toNat
def k0_dev30 (d0 : Dev nD) : Nat :=
  let c0_i32_958 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_957 : BitVec 32 := 1#32
  let v720 : BitVec 32 := Scalar.muli v5 c1_i32_957
  let v721 : BitVec 32 := Scalar.addi c0_i32_958 v720
  v721.toNat
abbrev stage0_0 : Fin 1 → Memref sig .tc .vmem S1024x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S8192x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S8192x512 : Shape := ⟨2, ![8192, 512]⟩
abbrev S512x1024 : Shape := ⟨2, ![512, 1024]⟩
abbrev S8192x1024 : Shape := ⟨2, ![8192, 1024]⟩

abbrev nBuf : Space → Nat
  | .hbm => 3
  | .vmem => 0
  | .smem => 0
  | _ => 0

abbrev bufTy : (tb : Table) → Fin (tcTables nBuf tb) → BufTy
  | .hbm, ⟨0, _⟩ => ⟨S8192x512, .bf16⟩
  | .hbm, ⟨1, _⟩ => ⟨S512x1024, .bf16⟩
  | .hbm, ⟨2, _⟩ => ⟨S8192x1024, .f32⟩
  | _, _ => ⟨S8192x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Proof.Ring.lean ====
module

public import proofs.«01_k».proof.Proof.Gen.KernelIdeal
public import proofs.«01_k».proof.Proof.Gen.KernelIdeal.Skeleton
public import proofs.«01_k».proof.Proof.Gen.KernelIdeal.Points
public import proofs.«01_k».proof.Proof.Gen.KernelIdeal.Launch
public import Idealize.ShloMosaic.Lib.Pipeline.Launch
public import Idealize.ShloMosaic.Lib.Pipeline.Kit
public import Idealize.ShloMosaic.Lib.Tactic

/-! # The kernel's text, hop by hop

The kernel passes the two halves of every device's block of `A` round a ring of eight devices: the upper
half to the right, the lower half to the left, each in two pieces. Here its text is written with the
direction `d` (`true`: to the right), the hop `h` and the piece `s` as parameters, and shown to be the
printed one. -/

@[expose] public section

noncomputable section

namespace Cert.KernelIdeal.Hops

open Cert.KernelIdeal Cert.KernelIdeal.Gen
open Idealize.ShloMosaic Idealize.ShloMosaic.TcCoe
open Idealize.SL Idealize.SL.Sem

variable {F : FTy → Type} [FloatOps F]

/-! ## Buffers, windows and semaphores -/

/-- The staged block of `A`. -/
abbrev mA : Memref sig .tc .vmem S1024x512 .bf16 := win0_0.stage 0
/-- The staged `B`. -/
abbrev mB : Memref sig .tc .vmem S512x1024 .bf16 := win0_1.stage 0
/-- The staged result. -/
abbrev mO : Memref sig .tc .vmem S8192x1024 .f32 := win0_2.stage 0

/-- The exchange buffer of a direction: eight slots of one half block each. -/
def comm (d : Bool) : Memref sig .tc .vmem S8x512x512 .bf16 :=
  match d with
  | true => Memref.whole cc0_scratch0
  | false => Memref.whole cc0_scratch1

/-- An exchange buffer is a whole buffer. -/
theorem comm_whole (d : Bool) : (comm d).IsWhole := by
  cases d <;> exact Memref.isWhole_whole _

/-- A piece of a slot lies in its exchange buffer. -/
theorem win_inb (j : Fin 8) (s : Fin 2) :
    ∀ a, (![j.val, 256 * s.val, 0] : Fin 3 → Nat) a + S1x256x512.size a ≤ S8x512x512.size a := by
  revert j s; decide

/-- A slot lies in its exchange buffer. -/
theorem slot_inb (j : Fin 8) :
    ∀ a, (![j.val, 0, 0] : Fin 3 → Nat) a + S1x512x512.size a ≤ S8x512x512.size a := by
  revert j; decide

/-- A semaphore's place lies in its array. -/
theorem sem_inb (h : Fin 7) (s : Fin 2) :
    ∀ a, (![h.val, s.val] : Fin 2 → Nat) a + S1x1.size a ≤ S7x2.size a := by
  revert h s; decide

/-- Piece `s` of slot `j`. -/
abbrev winRect (j : Fin 8) (s : Fin 2) : Rect S8x512x512 :=
  Rect.unit (s := S8x512x512) ![j.val, 256 * s.val, 0] S1x256x512.size (win_inb j s)

/-- Slot `j`. -/
abbrev slotRect (j : Fin 8) : Rect S8x512x512 :=
  Rect.unit (s := S8x512x512) ![j.val, 0, 0] S1x512x512.size (slot_inb j)

/-- Piece `s` of slot `j` of the exchange buffer of direction `d`. -/
def win (d : Bool) (j : Fin 8) (s : Fin 2) : Memref sig .tc .vmem S256x512 .bf16 :=
  ((comm d).slice (winRect j s) (fun _ => rfl)).squeeze S256x512 squeezes_S1x256x512_S256x512

/-- A piece is made of whole words. -/
theorem win_words (j : Fin 8) (s : Fin 2) : (winRect j s).WholeWords (EltTy.packing .bf16) := by
  revert j s; decide

/-- A piece is reached word by word. -/
theorem win_exact (d : Bool) (j : Fin 8) (s : Fin 2) : (win d j s).view.WordExact :=
  ((comm_whole d).wordExact_slice rfl _ (win_words j s)).reshape _ _

/-- The semaphore array of a direction for sending (`k = false`) or receiving (`k = true`). -/
def semArr (k d : Bool) : DmaSems sig S7x2 :=
  match d, k with
  | true, false => cc0_scratch2
  | true, true => cc0_scratch3
  | false, false => cc0_scratch4
  | false, true => cc0_scratch5

/-- The semaphore of hop `h`, piece `s`. -/
def xS (k d : Bool) (h : Fin 7) (s : Fin 2) : DmaSem sig :=
  (((semArr k d).slice (Rect.unit (s := S7x2) ![h.val, s.val] S1x1.size (sem_inb h s))).squeeze S_ squeezes_S1x1_S_).sem

/-- The barrier semaphore. -/
abbrev barS : Sem sig := (SemArray.scalar (sig.barrier 0 rfl) : Sems sig S_).sem

/-- The slot a hop's piece leaves from: the device's own slot at first, then the last one filled. -/
def src (h : Fin 7) : Fin 8 := ⟨(h.val + 7) % 8, Nat.mod_lt _ (by decide)⟩

/-- The slot a hop's piece arrives in. -/
def dst (h : Fin 7) : Fin 8 := ⟨h.val, by omega⟩

/-! ## The operations -/

/-- A text of one core. -/
abbrev Pr (F : FTy → Type) [FloatOps F] (α : Type) := Prog (TpuEff nD τ sig (Elt F) Λ₀ .tc) α

/-- Start sending piece `s` of hop `h` to device `n`. -/
def sendP (d : Bool) (h : Fin 7) (s : Fin 2) (n : Dev nD) : Pr F PUnit :=
  Prog.lift (.enqueueDma (win d (src h) s) (.remote (Dev.tc n) (win d (dst h) s) (.dma (xS false d h s)))
    (.dma (xS true d h s)) (win_exact d _ s) (win_exact d _ s) ⟨⟨rfl, Or.inl rfl⟩, trivial⟩)

/-- Wait for the arrival of piece `s` of hop `h`. -/
def recvP (d : Bool) (h : Fin 7) (s : Fin 2) : Pr F PUnit :=
  Prog.lift (.waitDma2 (xS true d h s) (win d (src h) s) (win d (dst h) s) (win_exact d _ s) (win_exact d _ s))

/-- Wait until piece `s` of hop `h` has left. -/
def leftP (d : Bool) (h : Fin 7) (s : Fin 2) : Pr F PUnit :=
  Prog.lift (.waitDma2 (xS false d h s) (win d (dst h) s) (win d (src h) s) (win_exact d _ s) (win_exact d _ s))

/-- Multiply slot `j` by `B` into the rows of the result at `off`. -/
def mulP (v14 : FVec F S512x1024 .bf16) (d : Bool) (j : Fin 8) (off : Fin 2 → Nat)
    (hoff : ∀ a, off a + S512x1024.size a ≤ S8192x1024.size a) : Pr F PUnit := do
  let v ← Prog.lift (.load (comm d) (slotRect j).toLoadRect (View.loadsAt_vmem h_S1x512x512))
  let _ ← Prog.lift (.load mO (Rect.unit (s := S8192x1024) off S512x1024.size hoff).toLoadRect (View.loadsAt_vmem h_S512x1024))
  Prog.lift (.store mO (Rect.unit (s := S8192x1024) off S512x1024.size hoff) (k0_pay4 v14 v) Finset.univ
    (View.stores_vmem_bits_univ h_S512x1024 rfl) (.inl rfl))

/-- Put half `d` of the device's own block of `A` into its slot 7. -/
def fillP (d : Bool) (off : Fin 2 → Nat) (hoff : ∀ a, off a + S512x512.size a ≤ S1024x512.size a) : Pr F PUnit := do
  let v ← Prog.lift (.load mA (Rect.unit (s := S1024x512) off S512x512.size hoff).toLoadRect (View.loadsAt_vmem h_S512x512))
  let _ ← Prog.lift (.load (comm d) (slotRect 7).toLoadRect (View.loadsAt_vmem h_S1x512x512))
  Prog.lift (.store (comm d) (slotRect 7) (k0_pay2 v) Finset.univ
    (View.stores_vmem h_S1x512x512 ((comm_whole d).storeExact_slice rfl _ packedbf16_S8x512x512_S1x512x512_7_0_0) (fun _ => rfl)) (.inl rfl))

/-- The four sends of a hop: both directions of the first piece, then of the second. -/
def sendsP (h : Fin 7) (nR nL nR' nL' : Dev nD) : Pr F PUnit := do
  sendP true h 0 nR
  sendP false h 0 nL
  sendP true h 1 nR'
  sendP false h 1 nL'

/-- The products and the departures that end a hop. -/
def tailP (c : Dev nD) (v14 : FVec F S512x1024 .bf16) (h : Fin 7) : Pr F PUnit := do
  mulP v14 true (dst h) (k0_off3 c (BitVec.ofNat 32 h.val)) (k0_off3_inb c h)
  mulP v14 false (dst h) (k0_off4 c (BitVec.ofNat 32 h.val)) (k0_off4_inb c h)
  leftP true h 0
  leftP false h 0
  leftP true h 1
  leftP false h 1

/-- A hop but the last: the arrivals, each passed on at once as hop `h'`. -/
def hopP (c : Dev nD) (v14 : FVec F S512x1024 .bf16) (h h' : Fin 7) (nR nL nR' nL' : Dev nD) : Pr F PUnit := do
  recvP true h 0
  recvP false h 0
  sendP true h' 0 nR
  sendP false h' 0 nL
  recvP true h 1
  recvP false h 1
  sendP true h' 1 nR'
  sendP false h' 1 nL'
  tailP c v14 h

/-- The last hop: nothing is passed on. -/
def lastP (c : Dev nD) (v14 : FVec F S512x1024 .bf16) : Pr F PUnit := do
  recvP true 6 0
  recvP false 6 0
  recvP true 6 1
  recvP false 6 1
  tailP c v14 6

/-- The barrier with both neighbours. -/
def barP (nL nR : Dev nD) : Pr F PUnit := do
  semSignalWord nL barS 1#32
  semSignalWord nR barS 1#32
  semWaitWord barS 2#32

/-- The device's own half blocks: into their slots, on their way, and multiplied. -/
def ownP (c : Dev nD) : Pr F (FVec F S512x1024 .bf16) := do
  let v ← Prog.lift (.load mB (Rect.unit (s := S512x1024) ![0, 0] S512x1024.size inb_S512x1024_S512x1024_0_0).toLoadRect (View.loadsAt_vmem h_S512x1024))
  fillP true ![0, 0] inb_S1024x512_S512x512_0_0
  fillP false ![512, 0] inb_S1024x512_S512x512_512_0
  sendsP 0 ⟨k0_dev3 c, k0_dev3_lt c⟩ ⟨k0_dev4 c, k0_dev4_lt c⟩ ⟨k0_dev5 c, k0_dev5_lt c⟩ ⟨k0_dev6 c, k0_dev6_lt c⟩
  mulP (k0_pay1 v) true 7 (k0_off1 c) (k0_off1_inb c)
  mulP (k0_pay1 v) false 7 (k0_off2 c) (k0_off2_inb c)
  pure (k0_pay1 v)

/-- The kernel on device `c`. -/
def mainP (c : Dev nD) : Pr F PUnit := do
  barP ⟨k0_dev1 c, k0_dev1_lt c⟩ ⟨k0_dev2 c, k0_dev2_lt c⟩
  let v14 ← ownP c
  hopP c v14 0 1 ⟨k0_dev7 c, k0_dev7_lt c⟩ ⟨k0_dev8 c, k0_dev8_lt c⟩ ⟨k0_dev9 c, k0_dev9_lt c⟩ ⟨k0_dev10 c, k0_dev10_lt c⟩
  hopP c v14 1 2 ⟨k0_dev11 c, k0_dev11_lt c⟩ ⟨k0_dev12 c, k0_dev12_lt c⟩ ⟨k0_dev13 c, k0_dev13_lt c⟩ ⟨k0_dev14 c, k0_dev14_lt c⟩
  hopP c v14 2 3 ⟨k0_dev15 c, k0_dev15_lt c⟩ ⟨k0_dev16 c, k0_dev16_lt c⟩ ⟨k0_dev17 c, k0_dev17_lt c⟩ ⟨k0_dev18 c, k0_dev18_lt c⟩
  hopP c v14 3 4 ⟨k0_dev19 c, k0_dev19_lt c⟩ ⟨k0_dev20 c, k0_dev20_lt c⟩ ⟨k0_dev21 c, k0_dev21_lt c⟩ ⟨k0_dev22 c, k0_dev22_lt c⟩
  hopP c v14 4 5 ⟨k0_dev23 c, k0_dev23_lt c⟩ ⟨k0_dev24 c, k0_dev24_lt c⟩ ⟨k0_dev25 c, k0_dev25_lt c⟩ ⟨k0_dev26 c, k0_dev26_lt c⟩
  hopP c v14 5 6 ⟨k0_dev27 c, k0_dev27_lt c⟩ ⟨k0_dev28 c, k0_dev28_lt c⟩ ⟨k0_dev29 c, k0_dev29_lt c⟩ ⟨k0_dev30 c, k0_dev30_lt c⟩
  lastP c v14

set_option maxRecDepth 65536 in
/-- The printed body is the kernel written hop by hop. -/
theorem body_eq : (bodyAt0 t0_0 : Pr F PUnit) = Prog.op .deviceId (fun c => mainP c) := rfl

end Cert.KernelIdeal.Hops

end
-- ==== Proof.Slots.lean ====
module

public import proofs.«01_k».proof.Proof.Ring
public import Idealize.ShloMosaic.Lib.Ring

/-! # Slots: where every half block of `A` is at every hop

What the exchange buffers hold, as one function per buffer, and how slots and pieces divide a buffer. -/

@[expose] public section

noncomputable section

namespace Cert.KernelIdeal.Hops

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The user's ghost state: the rounds of the ring's cells, their duties named by a Boolean. -/
abbrev UB := URounds (GSem nD τ sig) Bool
/-- The ghost state of the proof: the pipeline's and the ring's. -/
abbrev UU := UR sig nD τ × UB

/-- The resource algebra of the proof. -/
abbrev MM (F : FTy → Type) [FloatOps F] := MT nD τ sig Unit (Elt F) ℕ UU ℕ
/-- The pipeline's part of the ghost state. -/
abbrev EP : Emb (UR sig nD τ) (MM F) := embL
/-- The ring's part of the ghost state. -/
abbrev ER : Emb UB (MM F) := embR

variable (m : (ℓ : Loc nD τ sig) → Buf (Elt F) ℓ) (ρ : Dev nD → PrngReg)

/-- The memory at launch: arbitrary contents, all semaphores zero, arbitrary generator registers. -/
def s₀ : MemSt nD τ sig (Elt F) := ⟨m, fun _ => 0, ρ⟩

/-! ## The ring -/

set_option backward.proofsInPublic true in
/-- The neighbour in direction `d`. -/
def nb (d : Bool) (c : Dev nD) : Dev nD := ⟨(c.val + if d then 1 else 7) % 8, Nat.mod_lt _ (by decide)⟩

set_option backward.proofsInPublic true in
/-- The device whose half block slot `j` of the exchange buffer of direction `d` on device `c` is for. -/
def org (d : Bool) (c : Dev nD) (j : Fin 8) : Dev nD :=
  ⟨(c.val + if d then 7 - j.val else j.val + 1) % 8, Nat.mod_lt _ (by decide)⟩

/-- The neighbour on one side of the neighbour on the other side is the device itself. -/
theorem nb_nb (d : Bool) (c : Dev nD) : nb d (nb (!d) c) = c := by revert d c; decide
/-- The same the other way round. -/
theorem nb_nb' (d : Bool) (c : Dev nD) : nb (!d) (nb d c) = c := by revert d c; decide

/-- A slot filled over a hop is for the device that the neighbour's slot it came from was for. -/
theorem org_nb (d : Bool) (c : Dev nD) (h : Fin 7) : org d (nb d c) (dst h) = org d c (src h) := by
  revert d c h; decide

/-- Slot 7 is for the device itself. -/
theorem org_own (d : Bool) (c : Dev nD) : org d c 7 = c := by revert d c; decide

/-- The eight slots are for the eight devices. -/
theorem org_all (d : Bool) (c e : Dev nD) : ∃ j : Fin 8, org d c j = e := by revert d c e; decide

/-- Signals and sends go to the neighbours. -/
theorem right_eq {n : ℕ} (hn : n < nD) (c : Dev nD) (h : n = (c.val + 1) % 8) : (⟨n, hn⟩ : Dev nD) = nb true c := Fin.ext h
/-- The device one before, round the ring, is the left neighbour. -/
theorem left_eq {n : ℕ} (hn : n < nD) (c : Dev nD) (h : n = (c.val + 7) % 8) : (⟨n, hn⟩ : Dev nD) = nb false c := Fin.ext h

/-! ## Pieces and slots divide an exchange buffer -/

/-- A slot as a window. -/
def slot (d : Bool) (j : Fin 8) : View sig .tc .vmem S1x512x512 .bf16 := (comm d).view.slice (slotRect j)

/-- The elements of a piece, as elements of its buffer. -/
def winSet (d : Bool) (j : Fin 8) (s : Fin 2) : Finset (comm d).view.ty.Idx := (win d j s).view.set

/-- A piece has the elements of its rectangle. -/
theorem win_set (d : Bool) (j : Fin 8) (s : Fin 2) : (win d j s).view.set = ((comm d).view.slice (winRect j s)).set :=
  View.set_reshape _ _

/-- An element of piece `(j, s)`: in slot `j`, in its half of the rows. -/
theorem mem_winRect {j : Fin 8} {s : Fin 2} {x : S8x512x512.Idx} :
    x ∈ (winRect j s).set ↔ (x 0).val = j.val ∧ (x 1).val / 256 = s.val := by
  rw [Rect.mem_set_unit]
  have h0 : (x 0).val < 8 := (x 0).isLt
  have h1 : (x 1).val < 512 := (x 1).isLt
  have h2 : (x 2).val < 512 := (x 2).isLt
  constructor
  · intro h
    have a := h 0; have b := h 1
    simp only [S1x256x512, Matrix.cons_val_zero, Matrix.cons_val_one] at a b
    omega
  · rintro ⟨a, b⟩ i
    have hs := s.isLt
    fin_cases i <;> simp [S1x256x512] <;> omega

/-- An element of slot `j`. -/
theorem mem_slotRect {j : Fin 8} {x : S8x512x512.Idx} : x ∈ (slotRect j).set ↔ (x 0).val = j.val := by
  rw [Rect.mem_set_unit]
  have h0 : (x 0).val < 8 := (x 0).isLt
  have h1 : (x 1).val < 512 := (x 1).isLt
  have h2 : (x 2).val < 512 := (x 2).isLt
  constructor
  · intro h
    have a := h 0
    simp only [S1x512x512, Matrix.cons_val_zero] at a
    omega
  · rintro a i
    fin_cases i <;> simp [S1x512x512] <;> omega

/-- Different pieces are disjoint. -/
theorem win_disjoint (d : Bool) (p p' : Fin 8 × Fin 2) (h : p ≠ p') :
    Disjoint (winSet d p.1 p.2) (winSet d p'.1 p'.2) := by
  unfold winSet
  have key : Disjoint (winRect p.1 p.2).set (winRect p'.1 p'.2).set := by
    rw [Finset.disjoint_left]
    intro x hx hx'
    rw [mem_winRect] at hx hx'
    exact h (Prod.ext (Fin.ext (hx.1.symm.trans hx'.1)) (Fin.ext (hx.2.symm.trans hx'.2)))
  rw [win_set, win_set, View.set_slice, View.set_slice]
  exact (Finset.disjoint_map _).mpr key

/-- The pieces cover the buffer. -/
theorem win_cover (d : Bool) : Finset.univ.biUnion (fun p : Fin 8 × Fin 2 => winSet d p.1 p.2) = Finset.univ := by
  have key : ∀ x : S8x512x512.Idx, ∃ p : Fin 8 × Fin 2, x ∈ (winRect p.1 p.2).set := fun x => by
    have h1 : (x 1).val < 512 := (x 1).isLt
    exact ⟨(x 0, ⟨(x 1).val / 256, by omega⟩), mem_winRect.mpr ⟨rfl, rfl⟩⟩
  refine Finset.eq_univ_iff_forall.mpr fun y => ?_
  have hy : y ∈ (comm d).view.set := by rw [(comm_whole d).set_eq_univ]; exact Finset.mem_univ _
  obtain ⟨x, -, rfl⟩ := Finset.mem_map.mp hy
  obtain ⟨p, hp⟩ := key x
  refine Finset.mem_biUnion.mpr ⟨p, Finset.mem_univ _, ?_⟩
  unfold winSet
  rw [win_set, View.set_slice]
  exact Finset.mem_map_of_mem _ hp

/-- A slot is its two pieces. -/
theorem slot_set (d : Bool) (j : Fin 8) : (slot d j).set = winSet d j 0 ∪ winSet d j 1 := by
  have key : (slotRect j).set = (winRect j 0).set ∪ (winRect j 1).set := by
    ext x
    have h1 : (x 1).val < 512 := (x 1).isLt
    rw [Finset.mem_union, mem_winRect, mem_winRect, mem_slotRect]
    simp only [Fin.val_zero, Fin.val_one]
    omega
  unfold slot winSet
  rw [win_set, win_set, View.set_slice, View.set_slice, View.set_slice, key, Finset.map_union]

/-! ## Contents -/

/-- Device `c`'s staged block of `A`. -/
def xstg (c : Dev nD) : (cc0_stg0_0 : Ref sig .tc).ty.Contents (Elt F) :=
  (win0_0.blk (0 : Fin 1)).view.read (Elt F) ((s₀ m ρ).mem ((c : Thread nD τ).loc main_arg0))

/-- Device `c`'s staged `B`. -/
def bstg (c : Dev nD) : (cc0_stg1_0 : Ref sig .tc).ty.Contents (Elt F) :=
  (win0_1.blk (0 : Fin 1)).view.read (Elt F) ((s₀ m ρ).mem ((c : Thread nD τ).loc main_arg1))

/-- Where a half block starts in a block. -/
def halfOff (d : Bool) : Fin 2 → Nat := ![if d then 0 else 512, 0]
/-- A half block lies in the block. -/
theorem halfOff_inb (d : Bool) : ∀ a, halfOff d a + S512x512.size a ≤ S1024x512.size a := by revert d; decide

/-- The half of device `e`'s block that travels in direction `d`, as a slot's contents. -/
def half (e : Dev nD) (d : Bool) : Vec F S1x512x512 .bf16 :=
  k0_pay2 ((mA : Memref sig .tc .vmem S1024x512 .bf16).view.readAt (Elt F)
    (Rect.unit (s := S1024x512) (halfOff d) S512x512.size (halfOff_inb d)).toLoadRect (xstg m ρ e))

/-- A slot's own index from the buffer's. -/
def slotIx (i : S8x512x512.Idx) : S1x512x512.Idx := fun a => match a with
  | ⟨0, _⟩ => (0 : Fin 1)
  | ⟨1, _⟩ => (i 1 : Fin 512)
  | ⟨2, _⟩ => (i 2 : Fin 512)

/-- What an exchange buffer of device `c` holds in the end: each slot the half block it is for. -/
def landedFn (d : Bool) (c : Dev nD) (i : S8x512x512.Idx) : Elt F .bf16 := half m ρ (org d c (i 0)) d (slotIx i)

/-- The same, as the buffer's contents. -/
def landed (d : Bool) (c : Dev nD) : Buf (Elt F) ((comm d).view.loc (c : Thread nD τ)) :=
  match d with
  | true => landedFn m ρ true c
  | false => landedFn m ρ false c

omit [FloatOps F] in
/-- Reading an exchange buffer that holds its slots' contents reads those contents. -/
theorem comm_read (d : Bool) (c : Dev nD) [FloatOps F] (x : S8x512x512.Idx) :
    (comm d).view.read (Elt F) (landed m ρ d c) x = landedFn m ρ d c x := by
  cases d <;> rfl

/-- Slot `j` reads as the half block it is for. -/
theorem read_slot (d : Bool) (c : Dev nD) (j : Fin 8) :
    (comm d).view.readAt (Elt F) (slotRect j).toLoadRect (landed m ρ d c) = half m ρ (org d c j) d := by
  funext x
  have h0 : (x 0).val = 0 := by have : (x 0).val < 1 := (x 0).isLt; omega
  rw [View.readAt_apply, comm_read]
  have e : ∀ a, (((slotRect j).toLoadRect.idx x) a).val = (![j.val, 0, 0] : Fin 3 → Nat) a + (x a).val := fun a => by
    show (![j.val, 0, 0] : Fin 3 → Nat) a + 1 * (x a).val = _
    rw [Nat.one_mul]
  have e0 : ((slotRect j).toLoadRect.idx x) 0 = j := Fin.ext (by rw [e 0, h0]; rfl)
  have e1 : slotIx ((slotRect j).toLoadRect.idx x) = x := by
    funext a
    apply Fin.ext
    match a with
    | ⟨0, _⟩ => exact h0.symm
    | ⟨1, _⟩ => exact (e 1).trans (Nat.zero_add _)
    | ⟨2, _⟩ => exact (e 2).trans (Nat.zero_add _)
  unfold landedFn
  rw [e0, e1]

/-- A device's own half block written into slot 7 is what the slot is to hold. -/
theorem write_own (d : Bool) (c : Dev nD) (f : Buf (Elt F) ((comm d).view.loc (c : Thread nD τ))) :
    ∀ i ∈ (slot d 7).set, (slot d 7).write (Elt F) f (half m ρ c d) Finset.univ i = landed m ρ d c i := by
  intro i hi
  obtain ⟨x, -, rfl⟩ := Finset.mem_map.mp hi
  refine (View.write_emb_of_mem _ _ (Finset.mem_univ x)).trans ?_
  have := congrFun (read_slot m ρ d c 7) x
  rw [org_own] at this
  cases d <;> exact this.symm

/-- A piece that goes over a hop arrives as what its new slot is to hold. -/
theorem write_hop (d : Bool) (c : Dev nD) (h : Fin 7) (s : Fin 2) (f : Buf (Elt F) ((win d (dst h) s).view.loc (nb d c : Thread nD τ))) :
    ∀ i ∈ (win d (dst h) s).view.set,
      (win d (dst h) s).view.write (Elt F) f ((win d (src h) s).view.read (Elt F) (landed m ρ d c)) Finset.univ i
        = landed m ρ d (nb d c) i := by
  intro i hi
  obtain ⟨x, -, rfl⟩ := Finset.mem_map.mp hi
  refine (View.write_emb_of_mem _ _ (Finset.mem_univ x)).trans ?_
  have key : ∀ y : S1x256x512.Idx, landedFn m ρ d c ((winRect (src h) s).emb y) = landedFn m ρ d (nb d c) ((winRect (dst h) s).emb y) := fun y => by
    have h0 : (y 0).val = 0 := by have : (y 0).val < 1 := (y 0).isLt; omega
    have e : ∀ (j : Fin 8) a, (((winRect j s).emb y) a).val = (![j.val, 256 * s.val, 0] : Fin 3 → Nat) a + (y a).val := fun j a => by
      show (![j.val, 256 * s.val, 0] : Fin 3 → Nat) a + 1 * (y a).val = _
      rw [Nat.one_mul]
    have e0 : ∀ j : Fin 8, ((winRect j s).emb y) 0 = j := fun j => Fin.ext (by rw [e j 0, h0]; rfl)
    have e1 : slotIx ((winRect (src h) s).emb y) = slotIx ((winRect (dst h) s).emb y) := by
      funext a
      apply Fin.ext
      match a with
      | ⟨0, _⟩ => rfl
      | ⟨1, _⟩ => exact (e (src h) 1).trans (e (dst h) 1).symm
      | ⟨2, _⟩ => exact (e (src h) 2).trans (e (dst h) 2).symm
    unfold landedFn
    rw [e0, e0, e1, org_nb]
  cases d <;> exact key (Shape.reshapeEquiv _ x)

end Cert.KernelIdeal.Hops

end
-- ==== Proof.Protocol.lean ====
module

public import proofs.«01_k».proof.Proof.Slots

/-! # The protocol of the exchange

Every semaphore of the exchange is used once. A device's barrier has two duties, one of each neighbour, which
hands over the slots the device will send into. A receive semaphore has one duty, paid by the piece that arrives,
which hands over the piece. A send semaphore has one duty, paid by the piece that leaves, which hands back the
share of the source that travelled with it. -/

@[expose] public section

noncomputable section

namespace Cert.KernelIdeal.Hops

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
variable (m : (ℓ : Loc nD τ sig) → Buf (Elt F) ℓ) (ρ : Dev nD → PrngReg)

local notation "𝕄" => MM F

/-! ## Cells -/

/-- A transfer's name: to send or to receive, direction, hop, piece. -/
abbrev XI := Bool × Bool × Fin 7 × Fin 2
/-- A cell's name on its device: the barrier or a transfer's. -/
abbrev CI := Option XI

/-- The semaphore of a transfer. -/
abbrev osem (x : XI) : SemLoc sig := .dma (xS x.1 x.2.1 x.2.2.1 x.2.2.2)

/-- The semaphore of a cell. -/
abbrev csem : CI → SemLoc sig
  | none => .reg barS
  | some x => osem x

/-- A cell of a device. -/
abbrev cell (c : Dev nD) (i : CI) : GSem nD τ sig := ((c : Thread nD τ), csem i)
/-- A device's barrier. -/
abbrev barCell (c : Dev nD) : GSem nD τ sig := cell c none
/-- The semaphore on which a device learns that a piece has left. -/
abbrev sendCell (c : Dev nD) (d : Bool) (h : Fin 7) (s : Fin 2) : GSem nD τ sig := cell c (some (false, d, h, s))
/-- The semaphore on which a device learns that a piece has arrived. -/
abbrev recvCell (c : Dev nD) (d : Bool) (h : Fin 7) (s : Fin 2) : GSem nD τ sig := cell c (some (true, d, h, s))

/-- Where a transfer's semaphore is among the device's DMA semaphores. -/
theorem xS_val (k d : Bool) (h : Fin 7) (s : Fin 2) :
    (xS k d h s).val = 3 + 14 * ((if d then 0 else 2) + if k then 1 else 0) + 2 * h.val + s.val := by
  revert k d h s; decide +kernel

/-- Different transfers have different semaphores. -/
theorem osem_inj : Function.Injective osem := by
  rintro ⟨k, d, h, s⟩ ⟨k', d', h', s'⟩ e
  have e' : (xS k d h s).val = (xS k' d' h' s').val := by injection e with e; exact congrArg Fin.val e
  rw [xS_val, xS_val] at e'
  have := h.isLt; have := h'.isLt; have := s.isLt; have := s'.isLt
  have hk : k = k' := by cases k <;> cases k' <;> cases d <;> cases d' <;> simp at e' ⊢ <;> omega
  subst hk
  have hd : d = d' := by cases k <;> cases d <;> cases d' <;> simp at e' ⊢ <;> omega
  subst hd
  have hh : h = h' := Fin.ext (by omega)
  subst hh
  have hs : s = s' := Fin.ext (by omega)
  subst hs
  rfl

/-- Different cells of a device are different. -/
theorem csem_inj : Function.Injective csem := by
  rintro (_ | x) (_ | y) e
  · rfl
  · cases e
  · cases e
  · exact congrArg some (osem_inj e)

/-- Different cells are different. -/
theorem cell_inj : Function.Injective (fun p : Dev nD × CI => cell p.1 p.2) := by
  rintro ⟨c, i⟩ ⟨c', i'⟩ e
  have e1 : (c : Thread nD τ) = (c' : Thread nD τ) := congrArg Prod.fst e
  have e2 : csem i = csem i' := congrArg Prod.snd e
  exact Prod.ext (congrArg (fun t : Thread nD τ => t.1) e1) (csem_inj e2)

/-- The cell that a semaphore is, if it is one. -/
def wh (g : GSem nD τ sig) : Option CI := if g.1.2 = .tc then Function.partialInv csem g.2 else none

/-- A cell is found again from its semaphore. -/
theorem wh_cell (c : Dev nD) (i : CI) : wh (cell c i) = some i := by
  unfold wh
  rw [if_pos rfl]
  exact Function.partialInv_left csem_inj i

/-- The units of a piece's transfer. -/
def N : ℕ := (win true 0 0).view.dmaCredit
/-- A piece's credit is positive. -/
theorem N_pos : 0 < N := View.dmaCredit_pos _ (by decide)
/-- Every piece has the same credit. -/
theorem N_eq (d : Bool) (j : Fin 8) (s : Fin 2) : (win d j s).view.dmaCredit = N := by cases d <;> rfl

/-! ## What is held -/

/-- A share of piece `s` of slot `j` of device `c`. -/
def winPts (d : Bool) (c : Dev nD) (j : Fin 8) (s : Fin 2) (q : PosShare TreeShare) (f : Buf (Elt F) ((comm d).view.loc (c : Thread nD τ))) : sProp 𝕄 :=
  (comm d).view.loc (c : Thread nD τ) ↦[winSet d j s]{q} f

/-- A share of a piece that holds what it is to hold. -/
abbrev landedPts (d : Bool) (c : Dev nD) (j : Fin 8) (s : Fin 2) (q : PosShare TreeShare) : sProp 𝕄 :=
  winPts d c j s q (landed m ρ d c)

/-- A share of a piece may be handed over through a semaphore. -/
instance winPts_storable (d c j s q f) : BI.Storable (upEmb : UEmb _ 𝕄) (winPts (F := F) d c j s q f) := by
  unfold winPts; infer_instance

/-- The piece of the neighbour's buffer that the piece of hop `h` arrives in, at any contents. -/
def landing (c : Dev nD) (d : Bool) (h : Fin 7) (s : Fin 2) : sProp 𝕄 :=
  iprop(∃ f, winPts d (nb d c) (dst h) s fullShare f)

/-- So may the room for a piece. -/
instance landing_storable (c d h s) : BI.Storable (upEmb : UEmb _ 𝕄) (landing (F := F) c d h s) := by
  unfold landing; infer_instance

/-! ## The schedule -/

/-- What the neighbour in direction `d` hands over at the barrier: its slots of that direction's buffer but the last. -/
def barPay (d : Bool) (c : Dev nD) : sProp 𝕄 :=
  bigSep Finset.univ fun h : Fin 7 => iprop(landing c d h 0 ∗ landing c d h 1)

/-- What a transfer's semaphore hands over. -/
def xPay (c : Dev nD) (x : XI) : sProp 𝕄 :=
  if x.1 then landedPts m ρ x.2.1 c (dst x.2.2.1) x.2.2.2 fullShare
  else landedPts m ρ x.2.1 c (src x.2.2.1) x.2.2.2 fullShare.left

/-- So may what a barrier hands over. -/
instance barPay_storable (d c) : BI.Storable (upEmb : UEmb _ 𝕄) (barPay (F := F) d c) := by unfold barPay; infer_instance
/-- So may what a transfer hands over. -/
instance xPay_storable (c x) : BI.Storable (upEmb : UEmb _ 𝕄) (xPay (F := F) m ρ c x) := by
  unfold xPay; split <;> infer_instance

/-- A cell's duties. -/
def dutiesOf : Option CI → Finset Bool
  | some none => Finset.univ
  | some (some _) => {false}
  | none => ∅

/-- A duty's units. -/
def amountOf' : Option CI → ℕ
  | some (some _) => N
  | _ => 1

/-- A duty's payload. -/
def payloadOf (c : Dev nD) (d : Bool) : Option CI → sProp 𝕄
  | some none => barPay d c
  | some (some x) => xPay m ρ c x
  | none => iprop(emp)

/-- The exchange's schedule: one round for every cell. -/
def sched : Rounds.Schedule (GSem nD τ sig) Bool 𝕄 where
  duties g r := if r = 0 then dutiesOf (wh g) else ∅
  unitless _ := False
  amount g _ _ := amountOf' (wh g)
  payload g _ d := payloadOf m ρ g.1.1 d (wh g)
  amount_pos g _ _ _ := by
    unfold amountOf'
    split
    · exact N_pos
    · exact Nat.one_pos

/-- Every payload of the schedule may be handed over. -/
instance sched_storable (g : GSem nD τ sig) (r : ℕ) (d : Bool) :
    BI.Storable (upEmb : UEmb _ 𝕄) ((sched (F := F) m ρ).payload g r d) := by
  show BI.Storable upEmb (payloadOf m ρ g.1.1 d (wh g))
  unfold payloadOf
  split <;> infer_instance

/-- A barrier has both duties. -/
theorem duties_bar (c : Dev nD) : (sched m ρ).duties (barCell c) 0 = Finset.univ := by
  dsimp only [sched]; rw [if_pos rfl, wh_cell]; rfl
/-- A transfer's semaphore has one duty. -/
theorem duties_x (c : Dev nD) (x : XI) : (sched m ρ).duties (cell c (some x)) 0 = {false} := by
  dsimp only [sched]; rw [if_pos rfl, wh_cell]; rfl
/-- There is no second round. -/
theorem duties_later (g : GSem nD τ sig) : ∀ r, 1 ≤ r → (sched m ρ).duties g r = ∅ :=
  fun r hr => by dsimp only [sched]; rw [if_neg (by omega)]
/-- Each duty of a barrier is one unit. -/
theorem amount_bar (c : Dev nD) (d : Bool) : (sched m ρ).amount (barCell c) 0 d = 1 := by
  dsimp only [sched]; rw [wh_cell]; rfl
/-- The duty of a transfer is a piece's credit. -/
theorem amount_x (c : Dev nD) (x : XI) (d : Bool) : (sched m ρ).amount (cell c (some x)) 0 d = N := by
  dsimp only [sched]; rw [wh_cell]; rfl
/-- What a duty of a barrier hands over. -/
theorem payload_bar (c : Dev nD) (d : Bool) : (sched m ρ).payload (barCell c) 0 d = barPay d c := by
  dsimp only [sched]; rw [wh_cell]; rfl
/-- What a transfer's duty hands over. -/
theorem payload_x (c : Dev nD) (x : XI) (d : Bool) : (sched m ρ).payload (cell c (some x)) 0 d = xPay m ρ c x := by
  dsimp only [sched]; rw [wh_cell]; rfl

/-- A barrier waits for two units. -/
theorem expect_bar (c : Dev nD) : (sched m ρ).expect (barCell c) 0 = 2 := by
  unfold Schedule.expect Schedule.amountOf
  rw [duties_bar, Finset.sum_congr rfl fun d _ => amount_bar m ρ c d]
  rfl
/-- A transfer's semaphore waits for a piece's credit. -/
theorem expect_x (c : Dev nD) (x : XI) : (sched m ρ).expect (cell c (some x)) 0 = N := by
  unfold Schedule.expect Schedule.amountOf
  rw [duties_x, Finset.sum_singleton, amount_x]

/-- All that a barrier's round hands over. -/
theorem rest_bar (c : Dev nD) :
    bigSep ((sched m ρ).duties (barCell c) 0 \ ∅) (fun d => (sched m ρ).payload (barCell c) 0 d) = iprop(barPay true c ∗ barPay false c) := by
  rw [Finset.sdiff_empty, duties_bar, bigSep_univ_eq_bigSepL [true, false] (by decide) (by decide), bigSepL_cons_cons, bigSepL_singleton,
    payload_bar, payload_bar]
  rfl
/-- All that a transfer's round hands over. -/
theorem rest_x (c : Dev nD) (x : XI) :
    bigSep ((sched m ρ).duties (cell c (some x)) 0 \ ∅) (fun d => (sched m ρ).payload (cell c (some x)) 0 d) = xPay m ρ c x := by
  rw [Finset.sdiff_empty, duties_x, bigSep_singleton, payload_x]

/-! ## Debts and levels -/

/-- The neighbour's receive semaphore is owed a piece. -/
abbrev due (c : Dev nD) (d : Bool) (h : Fin 7) (s : Fin 2) : CellTallies nD τ sig Unit := tallyAt (recvCell (nb d c) d h s) () N

/-- What a device owes with the hops of a list still to send. -/
def owe (c : Dev nD) : List (Fin 7) → CellTallies nD τ sig Unit
  | [] => 0
  | h :: l => owe c l + due c false h 1 + due c true h 1 + due c false h 0 + due c true h 0

/-- What a device owes at launch: all its pieces, and a unit to each neighbour's barrier. -/
def O₀ (c : Dev nD) : CellTallies nD τ sig Unit :=
  owe c [0, 1, 2, 3, 4, 5, 6] + tallyAt (barCell (nb true c)) () 1 + tallyAt (barCell (nb false c)) () 1

/-- The one index of every cell of a TensorCore. -/
def L (g : GSem nD τ sig) : Finset Unit := if g.1.2 = .tc then {()} else ∅

/-- A cell's level. -/
def lvOf : Option CI → ℕ
  | some none => 1
  | some (some (true, _, h, _)) => h.val + 2
  | _ => 0
/-- Barriers at 1, the receive semaphores of hop `h` at `h + 2`, everything else at 0. -/
def lv (g : GSem nD τ sig) (_ : Unit) : ℕ := lvOf (wh g)

/-- Off the TensorCores no semaphore has a level. -/
theorem L_of_ne (g : GSem nD τ sig) (h : g.1.2 ≠ .tc) : L g = ∅ := if_neg h
/-- On them every semaphore has one. -/
theorem L_tc (c : Dev nD) (sm : SemLoc sig) : L ((c : Thread nD τ), sm) = {()} := if_pos rfl

/-- A cell's level. -/
theorem lv_cell (c : Dev nD) (i : CI) (u : Unit) : lv (cell c i) u = lvOf (some i) := by unfold lv; rw [wh_cell]

/-- A semaphore that is no cell of the exchange is at level 0. -/
theorem lv_other (c : Dev nD) (sm : SemLoc sig) (h : ∀ i, csem i ≠ sm) (u : Unit) : lv ((c : Thread nD τ), sm) u = 0 := by
  unfold lv wh
  rw [if_pos rfl]
  have : Function.partialInv csem sm = none := by
    cases e : Function.partialInv csem sm with
    | none => rfl
    | some i => exact absurd ((Function.partialInv_of_injective csem_inj _ _).mp e) (h i)
  rw [this]
  rfl

/-- Everything owed is at level `n` or higher, on a device's TensorCore. -/
def Above (n : ℕ) (O : CellTallies nD τ sig Unit) : Prop :=
  ∀ g u, 0 < O g u → (∃ (c : Dev nD) (sm : SemLoc sig), g = ((c : Thread nD τ), sm)) ∧ n ≤ lv g u

/-- Owing nothing is above any level. -/
theorem above_zero (n : ℕ) : Above n 0 := fun g u h => absurd h (Nat.lt_irrefl 0)

/-- Two debts above a level are so together. -/
theorem above_add {n : ℕ} {O O' : CellTallies nD τ sig Unit} (h : Above n O) (h' : Above n O') : Above n (O + O') := by
  intro g u hp
  rw [Pi.add_apply, Finsupp.add_apply] at hp
  rcases Nat.eq_zero_or_pos (O g u) with h0 | h0
  · exact h' g u (by omega)
  · exact h g u h0

/-- A debt to one cell is at that cell's level. -/
theorem above_tally {n : ℕ} (c : Dev nD) (i : CI) (k : ℕ) (h : n ≤ lvOf (some i)) : Above n (tallyAt (cell c i) () k) := by
  intro g u hp
  rw [tallyAt_apply] at hp
  by_cases hg : g = cell c i ∧ u = ()
  · rw [hg.1]
    exact ⟨⟨c, _, rfl⟩, by rw [lv_cell]; exact h⟩
  · rw [if_neg hg] at hp
    exact absurd hp (Nat.lt_irrefl 0)

/-- A copy owed at hop `h` is at level `h + 2`. -/
theorem above_due {n : ℕ} (c : Dev nD) (d : Bool) (h : Fin 7) (s : Fin 2) (hn : n ≤ h.val + 2) : Above n (due c d h s) :=
  above_tally _ _ _ hn

/-- So are all that is owed for a list of hops. -/
theorem above_owe {n : ℕ} (c : Dev nD) (l : List (Fin 7)) (hl : ∀ h ∈ l, n ≤ h.val + 2) : Above n (owe c l) := by
  induction l with
  | nil => exact above_zero n
  | cons h l ih =>
    have hh := hl h List.mem_cons_self
    exact above_add (above_add (above_add (above_add (ih fun x hx => hl x (List.mem_cons_of_mem _ hx))
      (above_due c _ h _ hh)) (above_due c _ h _ hh)) (above_due c _ h _ hh)) (above_due c _ h _ hh)

/-- A debt above a level is above a lower one. -/
theorem above_mono {n n' : ℕ} (hn : n' ≤ n) {O : CellTallies nD τ sig Unit} (h : Above n O) : Above n' O :=
  fun g u hp => ⟨(h g u hp).1, hn.trans (h g u hp).2⟩

/-- All that a device owes at its start is at level 1 or higher. -/
theorem above_O₀ (c : Dev nD) : Above 1 (O₀ c) :=
  above_add (above_add (above_owe c _ fun h _ => by omega) (above_tally _ _ _ (Nat.le_refl 1))) (above_tally _ _ _ (Nat.le_refl 1))

/-- A device may wait on a semaphore below everything it owes. -/
theorem mayWait (c : Dev nD) (sm : SemLoc sig) (n : ℕ) (hsm : lv ((c : Thread nD τ), sm) () < n) {O : CellTallies nD τ sig Unit} (hO : Above n O) :
    (levAts L lv : sProp 𝕄) ⊢ MayWait (c : Thread nD τ) sm () O :=
  MayOwe.of_cut (L := L) (lev := lv) (n - 1) (fun p hp => by rw [Finset.mem_singleton.mp hp, L_tc]; exact Finset.mem_singleton_self _)
    (fun g u hg => by obtain ⟨⟨c', sm', rfl⟩, -⟩ := hO g u hg; rw [L_tc]; exact Finset.mem_singleton_self _)
    (fun p hp => by rw [Finset.mem_singleton.mp hp]; exact Nat.le_sub_one_of_lt hsm)
    (fun g u hg => by have := (hO g u hg).2; omega)

/-! ## The records -/

/-- All cells' invariants, under the names `K`, and that all cells are open. -/
def records (K : Dev nD × CI → ℕ) : sProp 𝕄 :=
  iprop((bigSep Finset.univ fun p : Dev nD × CI => cellInv ER (sched m ρ) (K p) (cell p.1 p.2))
    ∗ bigSep Finset.univ fun p : Dev nD × CI => reached ER (cell p.1 p.2) 0)

/-- The records can be copied. -/
instance records_persistent (K : Dev nD × CI → ℕ) : BI.Persistent (records m ρ K) := by unfold records; infer_instance

/-- They hold every cell's invariant. -/
theorem records_inv (K : Dev nD × CI → ℕ) (c : Dev nD) (i : CI) :
    records m ρ K ⊢ cellInv ER (sched m ρ) (K (c, i)) (cell c i) := by
  unfold records
  exact sep_elim_left.trans (BI.bigSep_elim (Finset.mem_univ (c, i)))

/-- They say that every cell is open. -/
theorem records_reached (K : Dev nD × CI → ℕ) (c : Dev nD) (i : CI) :
    records m ρ K ⊢ (reached ER (cell c i) 0 : sProp 𝕄) := by
  unfold records
  exact sep_elim_right.trans (BI.bigSep_elim (Finset.mem_univ (c, i)))

/-! ## What a device holds of a piece of a hop -/

/-- A proposition for each piece of a hop, in the order of the text. -/
def four (P : Bool → Fin 2 → sProp 𝕄) : sProp 𝕄 := iprop(P true 0 ∗ P false 0 ∗ P true 1 ∗ P false 1)

/-- Before a piece arrives: the place at its receive semaphore, and the credit to wait there. -/
def toRecv (c : Dev nD) (h : Fin 7) (d : Bool) (s : Fin 2) : sProp 𝕄 :=
  iprop(atPos ER (recvCell c d h s) 0 ∅ 0 ∗ cred (tallyAt (recvCell c d h s) () N))

/-- Before a piece leaves: the place at its send semaphore, and the two duties it pays. -/
def toSend (c : Dev nD) (h : Fin 7) (d : Bool) (s : Fin 2) : sProp 𝕄 :=
  iprop(atPos ER (sendCell c d h s) 0 ∅ 0 ∗ dutyTok ER (sendCell c d h s) 0 false ∗ dutyTok ER (recvCell (nb d c) d h s) 0 false)

/-- While a piece is on its way: the place and the credit at its send semaphore, and half the source. -/
def sent (c : Dev nD) (h : Fin 7) (d : Bool) (s : Fin 2) : sProp 𝕄 :=
  iprop(atPos ER (sendCell c d h s) 0 ∅ 0 ∗ cred (tallyAt (sendCell c d h s) () N) ∗ landedPts m ρ d c (src h) s fullShare.right)

/-- After a hop: both semaphores closed at zero, and the source back. -/
def over (c : Dev nD) (h : Fin 7) (d : Bool) (s : Fin 2) : sProp 𝕄 :=
  iprop(semVal (sendCell c d h s) 0 ∗ semVal (recvCell c d h s) 0 ∗ landedPts m ρ d c (src h) s fullShare)

/-- What a device owes, whatever it has waited on. -/
def ow (c : Dev nD) (O : CellTallies nD τ sig Unit) : sProp 𝕄 := iprop(∃ W, owes (c : Thread nD τ) O W)

end Cert.KernelIdeal.Hops

end
-- ==== Proof.Product.lean ====
module

public import proofs.«01_k».proof.Proof.Protocol

/-! # The result, half block by half block

What each device's result is to hold, and how a store of one product brings it nearer. -/

@[expose] public section

noncomputable section

namespace Cert.KernelIdeal.Hops

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]
variable (m : (ℓ : Loc nD τ sig) → Buf (Elt F) ℓ) (ρ : Dev nD → PrngReg)

/-- `B` as device `c` reads it. -/
def bv (c : Dev nD) : FVec F S512x1024 .bf16 :=
  k0_pay1 ((mB : Memref sig .tc .vmem S512x1024 .bf16).view.readAt (Elt F)
    (Rect.unit (s := S512x1024) ![0, 0] S512x1024.size inb_S512x1024_S512x1024_0_0).toLoadRect (bstg m ρ c))

/-- The product of a half block of device `e` with `B`. -/
def prod (c e : Dev nD) (d : Bool) : FVec F S512x1024 .f32 := k0_pay4 (bv m ρ c) (half m ρ e d)

/-- The device whose block an element of the result belongs to. -/
def blk (i : S8192x1024.Idx) : Dev nD := ⟨(i 0).val / 1024, by have : (i 0).val < 8192 := (i 0).isLt; show _ < 8; omega⟩
/-- Which half of the block it belongs to. -/
def hf (i : S8192x1024.Idx) : Bool := decide ((i 0).val % 1024 < 512)
/-- Its place in the half block's product. -/
def inHalf (i : S8192x1024.Idx) : S512x1024.Idx := fun a => match a with
  | ⟨0, _⟩ => (⟨(i 0).val % 512, Nat.mod_lt _ (by decide)⟩ : Fin 512)
  | ⟨1, _⟩ => (i 1 : Fin 1024)

/-- The result of device `c`: every half block's product in its place. -/
def outFn (c : Dev nD) (i : S8192x1024.Idx) : Elt F .f32 := prod m ρ c (blk i) (hf i) (inHalf i)

/-- The same, as the staged result's contents. -/
def outAt (c : Dev nD) : (cc0_stg2_0 : Ref sig .tc).ty.Contents (Elt F) := outFn m ρ c

/-- Where a half block's product starts in the result. -/
def rowOff (e : Dev nD) (d : Bool) : Fin 2 → Nat := ![1024 * e.val + if d then 0 else 512, 0]

/-- The first store of the own block goes to the rows of its upper half. -/
theorem off1_eq (c : Dev nD) : k0_off1 c = rowOff (org true c 7) true := by rw [org_own]; exact k0_off1_eq c
/-- The second goes to the rows of its lower half. -/
theorem off2_eq (c : Dev nD) : k0_off2 c = rowOff (org false c 7) false := by rw [org_own]; exact k0_off2_eq c
/-- After a hop one store goes to the rows of the half block that came from the left. -/
theorem off3_eq (c : Dev nD) (h : Fin 7) : k0_off3 c (BitVec.ofNat 32 h.val) = rowOff (org true c (dst h)) true := by
  rw [k0_off3_eq c h]; revert c h; decide
/-- The other goes to the rows of the half block that came from the right. -/
theorem off4_eq (c : Dev nD) (h : Fin 7) : k0_off4 c (BitVec.ofNat 32 h.val) = rowOff (org false c (dst h)) false := by
  rw [k0_off4_eq c h]; revert c h; decide

/-- The contents `X` are final on the rows of the slots in `S`. -/
def agree (c : Dev nD) (X : (cc0_stg2_0 : Ref sig .tc).ty.Contents (Elt F)) (S : Finset (Bool × Fin 8)) : Prop :=
  ∀ i : S8192x1024.Idx, (∃ p ∈ S, org p.1 c p.2 = blk i ∧ p.1 = hf i) → X i = outFn m ρ c i

/-- Any contents are final on the rows of no slot. -/
theorem agree_empty (c : Dev nD) (X : (cc0_stg2_0 : Ref sig .tc).ty.Contents (Elt F)) : agree m ρ c X ∅ := by
  rintro i ⟨p, hp, -⟩
  exact absurd hp (Finset.notMem_empty p)

/-- With every slot done the contents are final. -/
theorem agree_all (c : Dev nD) (X : (cc0_stg2_0 : Ref sig .tc).ty.Contents (Elt F)) (S : Finset (Bool × Fin 8)) (hS : ∀ p, p ∈ S)
    (h : agree m ρ c X S) : X = outAt m ρ c := by
  funext i
  obtain ⟨j, hj⟩ := org_all (hf i) c (blk i)
  exact h i ⟨(hf i, j), hS _, hj, rfl⟩

/-- The product of slot `j` stored in its rows: these are final too. -/
theorem agree_step (c : Dev nD) (X : (cc0_stg2_0 : Ref sig .tc).ty.Contents (Elt F)) (S : Finset (Bool × Fin 8)) (h : agree m ρ c X S)
    (d : Bool) (j : Fin 8) (off : Fin 2 → Nat) (hoff : ∀ a, off a + S512x1024.size a ≤ S8192x1024.size a) (ho : off = rowOff (org d c j) d) :
    agree m ρ c (((mO : Memref sig .tc .vmem S8192x1024 .f32).access (Rect.unit (s := S8192x1024) off S512x1024.size hoff) : View sig .tc _ _ _).write
      (Elt F) X (prod m ρ c (org d c j) d) Finset.univ) (insert (d, j) S) := by
  subst ho
  intro i hi
  have hset : ∀ x : S8192x1024.Idx, x ∈ (Rect.unit (s := S8192x1024) (rowOff (org d c j) d) S512x1024.size hoff).set ↔ blk x = org d c j ∧ hf x = d := fun x => by
    rw [Rect.mem_set_unit]
    have h0 : (x 0).val < 8192 := (x 0).isLt
    have h1 : (x 1).val < 1024 := (x 1).isLt
    constructor
    · intro hx
      have a : 1024 * (org d c j).val + (if d then 0 else 512) ≤ (x 0).val ∧ (x 0).val < 1024 * (org d c j).val + (if d then 0 else 512) + 512 := hx 0
      refine ⟨Fin.ext ?_, ?_⟩
      · show (x 0).val / 1024 = _
        cases d <;> simp at a <;> omega
      · unfold hf
        cases d <;> simp at a ⊢ <;> omega
    · rintro ⟨a, b⟩ y
      have a' : (x 0).val / 1024 = (org d c j).val := congrArg Fin.val a
      match y with
      | ⟨0, _⟩ =>
        show 1024 * (org d c j).val + (if d then 0 else 512) ≤ (x 0).val ∧ (x 0).val < 1024 * (org d c j).val + (if d then 0 else 512) + 512
        unfold hf at b
        cases d <;> simp at b ⊢ <;> omega
      | ⟨1, _⟩ => exact ⟨Nat.zero_le _, h1.trans_eq (Nat.zero_add 1024).symm⟩
  by_cases hx : i ∈ (Rect.unit (s := S8192x1024) (rowOff (org d c j) d) S512x1024.size hoff).set
  · obtain ⟨hb, hh⟩ := (hset i).mp hx
    have hx' := hx
    rw [← Rect.map_emb_univ] at hx'
    obtain ⟨x, -, rfl⟩ := Finset.mem_map.mp hx'
    refine (View.write_emb_of_mem (v := ((mO : Memref sig .tc .vmem S8192x1024 .f32).access (Rect.unit (s := S8192x1024) (rowOff (org d c j) d) S512x1024.size hoff) : View sig .tc _ _ _)) _ _ (Finset.mem_univ x)).trans ?_
    unfold outFn
    rw [hb, hh]
    refine congrArg (prod m ρ c (org d c j) d) ?_
    have e : ∀ a, (((Rect.unit (s := S8192x1024) (rowOff (org d c j) d) S512x1024.size hoff).emb x) a).val = rowOff (org d c j) d a + (x a).val := fun a => by
      show rowOff (org d c j) d a + 1 * (x a).val = _
      rw [Nat.one_mul]
    funext a
    apply Fin.ext
    match a with
    | ⟨0, _⟩ =>
      have hl : (x 0).val < 512 := (x 0).isLt
      show (x 0).val = (((Rect.unit (s := S8192x1024) (rowOff (org d c j) d) S512x1024.size hoff).emb x) 0).val % 512
      rw [e 0]
      show (x 0).val = (1024 * (org d c j).val + (if d then 0 else 512) + (x 0).val) % 512
      cases d <;> simp <;> omega
    | ⟨1, _⟩ => exact ((e 1).trans (Nat.zero_add _)).symm
  · have hw : ((mO : Memref sig .tc .vmem S8192x1024 .f32).access (Rect.unit (s := S8192x1024) (rowOff (org d c j) d) S512x1024.size hoff) : View sig .tc _ _ _).write
        (Elt F) X (prod m ρ c (org d c j) d) Finset.univ i = X i := by
      refine View.write_of_not_mem _ _ _ ?_
      intro hm
      apply hx
      obtain ⟨x, -, rfl⟩ := Finset.mem_map.mp hm
      rw [← Rect.map_emb_univ]; exact Finset.mem_map_of_mem _ (Finset.mem_univ x)
    refine hw.trans (h i ?_)
    obtain ⟨p, hp, h1, h2⟩ := hi
    refine ⟨p, (Finset.mem_insert.mp hp).resolve_left ?_, h1, h2⟩
    rintro rfl
    exact hx ((hset i).mpr ⟨h1.symm, h2.symm⟩)

end Cert.KernelIdeal.Hops

end
-- ==== Proof.Steps.lean ====
module

public import proofs.«01_k».proof.Proof.Product

/-! # One step at a time

What each operation of the text does to what a device holds, for any direction, hop and piece. -/

@[expose] public section

noncomputable section

namespace Cert.KernelIdeal.Hops

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
variable (m : (ℓ : Loc nD τ sig) → Buf (Elt F) ℓ) (ρ : Dev nD → PrngReg)

local notation "𝕄" => MM F

/-- No loop of the program needs a measure of its own. -/
abbrev 𝒱₀ : Variants := Variants.none

/-- What holds if the text `p` runs on device `c` and `Q` is to hold after it. -/
abbrev run (c : Dev nD) {α : Type} (p : Pr F α) (Q : α → sProp 𝕄) : sProp 𝕄 :=
  wp frame (wpE (defs₀ (F := F)) 𝒱₀ (c : Thread nD τ) none) Set.univ p Q

variable (K : Dev nD × CI → ℕ)

/-- A share of a piece, in the words of the piece's own window. -/
theorem winPts_eq (d : Bool) (c : Dev nD) (j : Fin 8) (s : Fin 2) (q : PosShare TreeShare) (f : Buf (Elt F) ((comm d).view.loc (c : Thread nD τ))) :
    winPts d c j s q f = ((win d j s).view.loc (c : Thread nD τ) ↦[(win d j s).view.set]{q} f : sProp 𝕄) := rfl

/-- A whole share of a piece is its two halves. -/
theorem winPts_halves (d : Bool) (c : Dev nD) (j : Fin 8) (s : Fin 2) (f : Buf (Elt F) ((comm d).view.loc (c : Thread nD τ))) :
    (winPts d c j s fullShare f : sProp 𝕄) ⊣⊢ iprop(winPts d c j s fullShare.left f ∗ winPts d c j s fullShare.right f) :=
  pointsTo_share fullShare.mem_left_op_right

/-- A slot is its two pieces. -/
theorem slotPts_eq (d : Bool) (c : Dev nD) (j : Fin 8) (q : PosShare TreeShare) (f : Buf (Elt F) ((comm d).view.loc (c : Thread nD τ))) :
    ((comm d).view.loc (c : Thread nD τ) ↦[(slot d j).set]{q} f : sProp 𝕄) ⊣⊢ iprop(winPts d c j 0 q f ∗ winPts d c j 1 q f) := by
  rw [slot_set]
  exact pointsTo_union (win_disjoint d (j, 0) (j, 1) (fun h => by cases h))

/-- What a send semaphore hands over. -/
theorem xPay_send (c : Dev nD) (d : Bool) (h : Fin 7) (s : Fin 2) :
    xPay m ρ c (false, d, h, s) = landedPts m ρ d c (src h) s fullShare.left := rfl

/-- A send: the piece leaves with half of its source, the neighbour is owed one piece less. -/
theorem send_step (c n : Dev nD) (d : Bool) (h : Fin 7) (s : Fin 2) (hn : n = nb d c) (O : CellTallies nD τ sig Unit) (Q : PUnit → sProp 𝕄) :
    iprop(records m ρ K ∗ ow c (O + due c d h s) ∗ toSend c h d s ∗ landing c d h s ∗ landedPts m ρ d c (src h) s fullShare)
      ⊢ iprop((ow c O ∗ sent m ρ c h d s -∗ Q ⟨⟩) -∗ run c (sendP d h s n) Q) := by
  subst hn
  unfold ow toSend landing sent sendP
  simp only [Prog.lift]
  iintro ⟨#Hr, ⟨%W, HO⟩, ⟨Hat, Ht1, Ht2⟩, ⟨%f, Hd⟩, Hs⟩ Hk
  ihave Hs2 := (winPts_halves d c (src h) s (landed m ρ d c)).1 $$ Hs
  icases Hs2 with ⟨Hl, Hrt⟩
  iapply (Rounds.wp_send_pointsTo 𝒱₀ ER (sched m ρ) (c : Thread nD τ) none (c' := (nb d c : Thread nD τ))
      (src := win d (src h) s) (dst := win d (dst h) s) (sS := osem (false, d, h, s)) (sem := osem (true, d, h, s))
      (q := fullShare.left) (fs := landed m ρ d c) (κ₁ := K (c, some (false, d, h, s))) (κ₂ := K (nb d c, some (true, d, h, s)))
      (r₁ := 0) (r₂ := 0) (d₁ := false) (d₂ := false) (fd := f)
      (by rw [duties_x m ρ c (false, d, h, s)]; exact Finset.mem_singleton_self _)
      (by rw [duties_x m ρ (nb d c) (true, d, h, s)]; exact Finset.mem_singleton_self _)
      () () N (N_eq d (dst h) s) (amount_x m ρ c (false, d, h, s) false) (amount_x m ρ (nb d c) (true, d, h, s) false) O rfl (W := W)
      (by rw [payload_x m ρ c (false, d, h, s)]; exact BI.Entails.refl _)
      (by
        rw [payload_x m ρ (nb d c) (true, d, h, s)]
        refine Entails.of_eq ?_
        exact pointsTo_congr (write_hop m ρ d c h s f))) $$ [HO Ht1 Ht2 Hd Hl]
  · isplitr; · iapply (records_inv m ρ K c (some (false, d, h, s))); iexact Hr
    isplitr; · iapply (records_inv m ρ K (nb d c) (some (true, d, h, s))); iexact Hr
    isplitl [Hl]; · rw [← winPts_eq]; iexact Hl
    isplitl [Hd]; · rw [← winPts_eq]; iexact Hd
    isplitl [HO]; · iexact HO
    isplitl [Ht1]; · iexact Ht1
    isplitr; · iapply (records_reached m ρ K c (some (false, d, h, s))); iexact Hr
    isplitl [Ht2]; · iexact Ht2
    iapply (records_reached m ρ K (nb d c) (some (true, d, h, s))); iexact Hr
  iintro ⟨Hc, HO⟩
  rw [wp_ret]; imodintro
  iapply Hk
  isplitl [HO]; · iexists W; iexact HO
  isplitl [Hat]; · iexact Hat
  isplitl [Hc]; · iexact Hc
  iexact Hrt

/-- A wait at a transfer's semaphore: its payload comes, and the semaphore is closed at zero. -/
theorem wait_step (c : Dev nD) (x : XI) (w : TpuEff nD τ sig (Elt F) Λ₀ .tc PUnit)
    (hw : ∀ R : PUnit → sProp 𝕄, wpE (defs₀ (F := F)) 𝒱₀ (c : Thread nD τ) none Set.univ w R = waitSpec (c : Thread nD τ) Set.univ (osem x) N R)
    (O : CellTallies nD τ sig Unit) (n : ℕ) (hn : lvOf (some (some x)) < n) (hO : Above n O) (Q : PUnit → sProp 𝕄) :
    iprop(records m ρ K ∗ levAts L lv ∗ ow c O ∗ atPos ER (cell c (some x)) 0 ∅ 0 ∗ cred (tallyAt (cell c (some x)) () N))
      ⊢ iprop((ow c O ∗ semVal (cell c (some x)) 0 ∗ xPay m ρ c x -∗ Q ⟨⟩) -∗ run c (.op w fun _ => .ret ⟨⟩) Q) := by
  unfold ow
  iintro ⟨#Hr, #Hlev, ⟨%W, HO⟩, Hat, Hc⟩ Hk
  iapply (Rounds.wp_wait_rest_token 𝒱₀ ER (sched m ρ) (c : Thread nD τ) none (sm := osem x) (κ := K (c, some x)) (k' := N)
      hw (Set.mem_univ _) () (O := O) (W := W) (R := 0) (m := 0) (T := ∅)
      (by rw [Nat.zero_add, expect_x m ρ c x])) $$ [HO Hat Hc]
  · isplitr; · iapply (records_inv m ρ K c (some x)); iexact Hr
    isplitl [Hc]; · iexact Hc
    isplitl [HO]; · iexact HO
    isplitr; · iapply (mayWait c (osem x) n (by rw [lv_cell c (some x)]; exact hn) hO); iexact Hlev
    iexact Hat
  iintro ⟨HO, Hat, -, Hpay⟩
  ihave Hp := (Entails.of_eq (rest_x m ρ c x)) $$ Hpay
  rw [wp_ret]
  imod (Rounds.cell_close ER (sched m ρ) (Set.mem_univ (K (c, some x))) (fun h => h) (R := 0 + 1) (duties_later m ρ (cell c (some x)))) $$ [Hat] with Hz
  · isplitr; · iapply (records_inv m ρ K c (some x)); iexact Hr
    iexact Hat
  imodintro
  iapply Hk
  isplitl [HO]; · iexists _; iexact HO
  isplitl [Hz]; · iexact Hz
  iexact Hp

/-- An arrival: the piece is here, as it is to be. -/
theorem recv_step (c : Dev nD) (d : Bool) (h : Fin 7) (s : Fin 2) (O : CellTallies nD τ sig Unit) (hO : Above (h.val + 3) O) (Q : PUnit → sProp 𝕄) :
    iprop(records m ρ K ∗ levAts L lv ∗ ow c O ∗ toRecv c h d s)
      ⊢ iprop((ow c O ∗ semVal (recvCell c d h s) 0 ∗ landedPts m ρ d c (dst h) s fullShare -∗ Q ⟨⟩) -∗ run c (recvP d h s) Q) := by
  refine (wait_step m ρ K c (true, d, h, s) (.waitDma2 (xS true d h s) (win d (src h) s) (win d (dst h) s) (win_exact d _ s) (win_exact d _ s))
    (fun R => (wpE_waitDma2_eq 𝒱₀ (c : Thread nD τ) none Set.univ R).trans (by rw [N_eq])) O (h.val + 3) (by show h.val + 2 < _; omega) hO Q)

/-- A departure: the whole source is back. -/
theorem left_step (c : Dev nD) (d : Bool) (h : Fin 7) (s : Fin 2) (O : CellTallies nD τ sig Unit) (hO : Above 1 O) (Q : PUnit → sProp 𝕄) :
    iprop(records m ρ K ∗ levAts L lv ∗ ow c O ∗ sent m ρ c h d s ∗ semVal (recvCell c d h s) 0)
      ⊢ iprop((ow c O ∗ over m ρ c h d s -∗ Q ⟨⟩) -∗ run c (leftP d h s) Q) := by
  unfold sent over
  iintro ⟨#Hr, #Hlev, HO, ⟨Hat, Hc, Hrt⟩, Hv⟩ Hk
  iapply (wait_step m ρ K c (false, d, h, s) (.waitDma2 (xS false d h s) (win d (dst h) s) (win d (src h) s) (win_exact d _ s) (win_exact d _ s))
    (fun R => (wpE_waitDma2_eq 𝒱₀ (c : Thread nD τ) none Set.univ R).trans (by rw [N_eq])) O 1 (by show 0 < 1; omega) hO Q) $$ [HO Hat Hc]
  · isplitr; · iexact Hr
    isplitr; · iexact Hlev
    isplitl [HO]; · iexact HO
    isplitl [Hat]; · iexact Hat
    iexact Hc
  iintro ⟨HO, Hz, Hl⟩
  iapply Hk
  isplitl [HO]; · iexact HO
  isplitl [Hz]; · iexact Hz
  isplitl [Hv]; · iexact Hv
  iapply (winPts_halves d c (src h) s (landed m ρ d c)).2
  isplitl [Hl]; · iapply (Entails.of_eq (xPay_send m ρ c d h s)) $$ Hl
  iexact Hrt

/-- The staged result, final on the rows of the slots in `S`. -/
def outUpTo (c : Dev nD) (S : Finset (Bool × Fin 8)) : sProp 𝕄 :=
  iprop(∃ X : (cc0_stg2_0 : Ref sig .tc).ty.Contents (Elt F), ⌜agree m ρ c X S⌝ ∗ ((c : Thread nD τ).loc cc0_stg2_0) ↦{fullShare} X)

/-- A product: any share of the slot will do, and its rows of the result become final. -/
theorem mul_step (c : Dev nD) (d : Bool) (j : Fin 8) (q : PosShare TreeShare) (S : Finset (Bool × Fin 8)) (off : Fin 2 → Nat)
    (hoff : ∀ a, off a + S512x1024.size a ≤ S8192x1024.size a) (ho : off = rowOff (org d c j) d) (Q : PUnit → sProp 𝕄) :
    iprop(landedPts m ρ d c j 0 q ∗ landedPts m ρ d c j 1 q ∗ outUpTo m ρ c S)
      ⊢ iprop((landedPts m ρ d c j 0 q ∗ landedPts m ρ d c j 1 q ∗ outUpTo m ρ c (insert (d, j) S) -∗ Q ⟨⟩)
        -∗ run c (mulP (bv m ρ c) d j off hoff) Q) := by
  unfold outUpTo mulP
  simp only [Prog.lift, Prog.bind_op, Prog.bind_ret]
  iintro ⟨H0, H1, ⟨%X, %hX, Hout⟩⟩ Hk
  ihave Hs := (slotPts_eq d c j q (landed m ρ d c)).2 $$ [H0 H1]
  · isplitl [H0] <;> iassumption
  iapply (wp_load 𝒱₀ (c : Thread nD τ) none Set.univ (m := comm d) (r := (slotRect j).toLoadRect) (S := (slot d j).set) (q := q) (f := landed m ρ d c)
    (by unfold slot; rw [View.set_slice]; exact Finset.Subset.refl _)) $$ Hs; iintro Hs
  rw [read_slot]
  iapply (wp_load 𝒱₀ (c : Thread nD τ) none Set.univ (m := mO) (Finset.subset_univ _)) $$ Hout; iintro Hout
  iapply (wp_store 𝒱₀ (c : Thread nD τ) none Set.univ (m := mO) (r := Rect.unit (s := S8192x1024) off S512x1024.size hoff)
    (Mk := Finset.univ) (Finset.subset_univ _)) $$ Hout; iintro Hout
  rw [wp_ret]; imodintro
  iapply Hk
  ihave Hs2 := (slotPts_eq d c j q (landed m ρ d c)).1 $$ Hs
  icases Hs2 with ⟨H0, H1⟩
  isplitl [H0]; · iexact H0
  isplitl [H1]; · iexact H1
  iexists _
  isplitr
  · ipureintro; exact agree_step m ρ c X S hX d j off hoff ho
  iexact Hout

/-- The device's own half block goes into slot 7. -/
theorem fill_step (c : Dev nD) (d : Bool) (off : Fin 2 → Nat) (hoff : ∀ a, off a + S512x512.size a ≤ S1024x512.size a) (ho : off = halfOff d)
    (f : Buf (Elt F) ((comm d).view.loc (c : Thread nD τ))) (Q : PUnit → sProp 𝕄) :
    iprop((((c : Thread nD τ).loc cc0_stg0_0) ↦{fullShare} xstg m ρ c) ∗ winPts d c 7 0 fullShare f ∗ winPts d c 7 1 fullShare f)
      ⊢ iprop(((((c : Thread nD τ).loc cc0_stg0_0) ↦{fullShare} xstg m ρ c) ∗ landedPts m ρ d c 7 0 fullShare ∗ landedPts m ρ d c 7 1 fullShare -∗ Q ⟨⟩)
        -∗ run c (fillP d off hoff) Q) := by
  subst ho
  have e : (((comm d).access (slotRect 7)).loc (c : Thread nD τ) ↦[(slot d 7).set]{fullShare}
      ((comm d).access (slotRect 7)).write (Elt F) f (half m ρ c d) Finset.univ : sProp 𝕄)
      = ((comm d).view.loc (c : Thread nD τ) ↦[(slot d 7).set]{fullShare} landed m ρ d c) :=
    pointsTo_congr (write_own m ρ d c f)
  unfold half at e
  unfold fillP
  simp only [Prog.lift, Prog.bind_op, Prog.bind_ret]
  iintro ⟨Hx, H0, H1⟩ Hk
  ihave Hs := (slotPts_eq d c 7 fullShare f).2 $$ [H0 H1]
  · isplitl [H0] <;> iassumption
  iapply (wp_load 𝒱₀ (c : Thread nD τ) none Set.univ (m := mA) (Finset.subset_univ _)) $$ Hx; iintro Hx
  iapply (wp_load 𝒱₀ (c : Thread nD τ) none Set.univ (m := comm d) (r := (slotRect 7).toLoadRect) (S := (slot d 7).set) (q := fullShare) (f := f)
    (by unfold slot; rw [View.set_slice]; exact Finset.Subset.refl _)) $$ Hs; iintro Hs
  iapply (wp_store 𝒱₀ (c : Thread nD τ) none Set.univ (m := comm d) (r := slotRect 7) (Mk := Finset.univ)
    (S := (slot d 7).set) (f := f) (Finset.Subset.refl _)) $$ Hs; iintro Hs
  rw [wp_ret]; imodintro
  iapply Hk
  isplitl [Hx]; · iexact Hx
  iapply (slotPts_eq d c 7 fullShare (landed m ρ d c)).1
  iapply (Entails.of_eq e) $$ Hs

end Cert.KernelIdeal.Hops

end
-- ==== Proof.Hop.lean ====
module

public import proofs.«01_k».proof.Proof.Steps

/-! # A hop, and the whole text

The steps put together: what is held before and after the barrier, the first sends, a hop, the last hop. -/

@[expose] public section

noncomputable section

namespace Cert.KernelIdeal.Hops

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
variable (m : (ℓ : Loc nD τ sig) → Buf (Elt F) ℓ) (ρ : Dev nD → PrngReg)

local notation "𝕄" => MM F

variable (K : Dev nD × CI → ℕ)

/-- The receive semaphore of a piece, closed at zero. -/
abbrev arrived (c : Dev nD) (h : Fin 7) (d : Bool) (s : Fin 2) : sProp 𝕄 := semVal (recvCell c d h s) 0

/-- The end of a hop: both products, then the pieces of the hop have left. -/
theorem tail_step (c : Dev nD) (h : Fin 7) (q : PosShare TreeShare) (S : Finset (Bool × Fin 8)) (O : CellTallies nD τ sig Unit)
    (hO : Above 1 O) (Q : PUnit → sProp 𝕄) :
    iprop(records m ρ K ∗ levAts L lv ∗ ow c O ∗ outUpTo m ρ c S ∗ four (sent m ρ c h) ∗ four (arrived c h)
        ∗ four (fun d s => landedPts m ρ d c (dst h) s q))
      ⊢ iprop((ow c O ∗ outUpTo m ρ c (insert (false, dst h) (insert (true, dst h) S)) ∗ four (over m ρ c h)
          ∗ four (fun d s => landedPts m ρ d c (dst h) s q) -∗ Q ⟨⟩)
        -∗ run c (tailP c (bv m ρ c) h) Q) := by
  unfold tailP four
  simp only [wp_bind]
  iintro ⟨#Hr, #Hlev, HO, Hout, ⟨Hs1, Hs2, Hs3, Hs4⟩, ⟨Hz1, Hz2, Hz3, Hz4⟩, ⟨Hp1, Hp2, Hp3, Hp4⟩⟩ Hk
  iapply (mul_step m ρ c true (dst h) q S _ _ (off3_eq c h)) $$ [Hp1 Hp3 Hout]
  · isplitl [Hp1]; · iexact Hp1
    isplitl [Hp3]; · iexact Hp3
    iexact Hout
  iintro ⟨Hp1, Hp3, Hout⟩
  iapply (mul_step m ρ c false (dst h) q _ _ _ (off4_eq c h)) $$ [Hp2 Hp4 Hout]
  · isplitl [Hp2]; · iexact Hp2
    isplitl [Hp4]; · iexact Hp4
    iexact Hout
  iintro ⟨Hp2, Hp4, Hout⟩
  iapply (left_step m ρ K c true h 0 O hO) $$ [HO Hs1 Hz1]
  · isplitr; · iexact Hr
    isplitr; · iexact Hlev
    isplitl [HO]; · iexact HO
    isplitl [Hs1] <;> iassumption
  iintro ⟨HO, Hs1⟩
  iapply (left_step m ρ K c false h 0 O hO) $$ [HO Hs2 Hz2]
  · isplitr; · iexact Hr
    isplitr; · iexact Hlev
    isplitl [HO]; · iexact HO
    isplitl [Hs2] <;> iassumption
  iintro ⟨HO, Hs2⟩
  iapply (left_step m ρ K c true h 1 O hO) $$ [HO Hs3 Hz3]
  · isplitr; · iexact Hr
    isplitr; · iexact Hlev
    isplitl [HO]; · iexact HO
    isplitl [Hs3] <;> iassumption
  iintro ⟨HO, Hs3⟩
  iapply (left_step m ρ K c false h 1 O hO) $$ [HO Hs4 Hz4]
  · isplitr; · iexact Hr
    isplitr; · iexact Hlev
    isplitl [HO]; · iexact HO
    isplitl [Hs4] <;> iassumption
  iintro ⟨HO, Hs4⟩
  iapply Hk
  isplitl [HO]; · iexact HO
  isplitl [Hout]; · iexact Hout
  isplitl [Hs1 Hs2 Hs3 Hs4]
  · isplitl [Hs1]; · iexact Hs1
    isplitl [Hs2]; · iexact Hs2
    isplitl [Hs3] <;> iassumption
  isplitl [Hp1]; · iexact Hp1
  isplitl [Hp2]; · iexact Hp2
  isplitl [Hp3] <;> iassumption

/-- A piece on its way, its source slot under another name. -/
theorem sent_eq (c : Dev nD) (h' : Fin 7) (j : Fin 8) (hs : src h' = j) (d : Bool) (s : Fin 2) :
    (sent m ρ c h' d s : sProp 𝕄)
      = iprop(atPos ER (sendCell c d h' s) 0 ∅ 0 ∗ cred (tallyAt (sendCell c d h' s) () N) ∗ landedPts m ρ d c j s fullShare.right) := by
  unfold sent
  rw [hs]

/-- A filled slot is the source of the next hop. -/
theorem landed_src (c : Dev nD) (h' : Fin 7) (j : Fin 8) (hs : src h' = j) (d : Bool) (s : Fin 2) :
    (landedPts m ρ d c j s fullShare : sProp 𝕄) ⊢ landedPts m ρ d c (src h') s fullShare := by
  rw [hs]

/-- What is owed for a list of hops: the four copies of its first hop, and what is owed for the rest. -/
theorem owe_cons (c : Dev nD) (h : Fin 7) (l : List (Fin 7)) :
    owe c (h :: l) = owe c l + due c false h 1 + due c true h 1 + due c false h 0 + due c true h 0 := rfl

/-- A hop but the last. -/
theorem hop_step (c : Dev nD) (h h' : Fin 7) (hs : src h' = dst h) (l : List (Fin 7)) (hl : ∀ x ∈ h' :: l, h.val < x.val)
    (S : Finset (Bool × Fin 8)) (nR nL nR' nL' : Dev nD) (hR : nR = nb true c) (hL : nL = nb false c) (hR' : nR' = nb true c) (hL' : nL' = nb false c)
    (Q : PUnit → sProp 𝕄) :
    iprop(records m ρ K ∗ levAts L lv ∗ ow c (owe c (h' :: l)) ∗ outUpTo m ρ c S ∗ four (sent m ρ c h) ∗ four (toRecv c h)
        ∗ four (toSend c h') ∗ four (landing c · h' ·))
      ⊢ iprop((ow c (owe c l) ∗ outUpTo m ρ c (insert (false, dst h) (insert (true, dst h) S)) ∗ four (sent m ρ c h') ∗ four (over m ρ c h) -∗ Q ⟨⟩)
        -∗ run c (hopP c (bv m ρ c) h h' nR nL nR' nL') Q) := by
  have hh : h.val < h'.val := hl h' List.mem_cons_self
  have a0 : Above (h.val + 3) (owe c l) := above_owe c l fun x hx => by have := hl x (List.mem_cons_of_mem _ hx); omega
  have a1 : ∀ d s, Above (h.val + 3) (due c d h' s) := fun d s => above_due c d h' s (by omega)
  have a2 : Above (h.val + 3) (owe c l + due c false h' 1 + due c true h' 1) := above_add (above_add a0 (a1 _ _)) (a1 _ _)
  have a4 : Above (h.val + 3) (owe c (h' :: l)) := above_add (above_add a2 (a1 _ _)) (a1 _ _)
  unfold hopP four
  simp only [wp_bind]
  iintro ⟨#Hr, #Hlev, HO, Hout, Hs, ⟨Hv1, Hv2, Hv3, Hv4⟩, ⟨Ht1, Ht2, Ht3, Ht4⟩, ⟨Hd1, Hd2, Hd3, Hd4⟩⟩ Hk
  iapply (recv_step m ρ K c true h 0 _ a4) $$ [HO Hv1]
  · isplitr; · iexact Hr
    isplitr; · iexact Hlev
    isplitl [HO] <;> iassumption
  iintro ⟨HO, Hz1, Hp1⟩
  iapply (recv_step m ρ K c false h 0 _ a4) $$ [HO Hv2]
  · isplitr; · iexact Hr
    isplitr; · iexact Hlev
    isplitl [HO] <;> iassumption
  iintro ⟨HO, Hz2, Hp2⟩
  rw [owe_cons]
  iapply (send_step m ρ K c nR true h' 0 hR) $$ [HO Ht1 Hd1 Hp1]
  · isplitr; · iexact Hr
    isplitl [HO]; · iexact HO
    isplitl [Ht1]; · iexact Ht1
    isplitl [Hd1]; · iexact Hd1
    iapply (landed_src m ρ c h' (dst h) hs true 0); iexact Hp1
  iintro ⟨HO, Hn1⟩
  iapply (send_step m ρ K c nL false h' 0 hL) $$ [HO Ht2 Hd2 Hp2]
  · isplitr; · iexact Hr
    isplitl [HO]; · iexact HO
    isplitl [Ht2]; · iexact Ht2
    isplitl [Hd2]; · iexact Hd2
    iapply (landed_src m ρ c h' (dst h) hs false 0); iexact Hp2
  iintro ⟨HO, Hn2⟩
  iapply (recv_step m ρ K c true h 1 _ a2) $$ [HO Hv3]
  · isplitr; · iexact Hr
    isplitr; · iexact Hlev
    isplitl [HO] <;> iassumption
  iintro ⟨HO, Hz3, Hp3⟩
  iapply (recv_step m ρ K c false h 1 _ a2) $$ [HO Hv4]
  · isplitr; · iexact Hr
    isplitr; · iexact Hlev
    isplitl [HO] <;> iassumption
  iintro ⟨HO, Hz4, Hp4⟩
  iapply (send_step m ρ K c nR' true h' 1 hR') $$ [HO Ht3 Hd3 Hp3]
  · isplitr; · iexact Hr
    isplitl [HO]; · iexact HO
    isplitl [Ht3]; · iexact Ht3
    isplitl [Hd3]; · iexact Hd3
    iapply (landed_src m ρ c h' (dst h) hs true 1); iexact Hp3
  iintro ⟨HO, Hn3⟩
  iapply (send_step m ρ K c nL' false h' 1 hL') $$ [HO Ht4 Hd4 Hp4]
  · isplitr; · iexact Hr
    isplitl [HO]; · iexact HO
    isplitl [Ht4]; · iexact Ht4
    isplitl [Hd4]; · iexact Hd4
    iapply (landed_src m ρ c h' (dst h) hs false 1); iexact Hp4
  iintro ⟨HO, Hn4⟩
  ihave Hn1 := (Entails.of_eq (sent_eq m ρ c h' (dst h) hs true 0)) $$ Hn1
  ihave Hn2 := (Entails.of_eq (sent_eq m ρ c h' (dst h) hs false 0)) $$ Hn2
  ihave Hn3 := (Entails.of_eq (sent_eq m ρ c h' (dst h) hs true 1)) $$ Hn3
  ihave Hn4 := (Entails.of_eq (sent_eq m ρ c h' (dst h) hs false 1)) $$ Hn4
  icases Hn1 with ⟨Ha1, Hc1, Hp1⟩
  icases Hn2 with ⟨Ha2, Hc2, Hp2⟩
  icases Hn3 with ⟨Ha3, Hc3, Hp3⟩
  icases Hn4 with ⟨Ha4, Hc4, Hp4⟩
  iapply (tail_step m ρ K c h fullShare.right S (owe c l) (above_mono (by omega) a0)) $$ [HO Hout Hs Hz1 Hz2 Hz3 Hz4 Hp1 Hp2 Hp3 Hp4]
  · unfold four
    isplitr; · iexact Hr
    isplitr; · iexact Hlev
    isplitl [HO]; · iexact HO
    isplitl [Hout]; · iexact Hout
    isplitl [Hs]; · iexact Hs
    isplitl [Hz1 Hz2 Hz3 Hz4]
    · isplitl [Hz1]; · iexact Hz1
      isplitl [Hz2]; · iexact Hz2
      isplitl [Hz3] <;> iassumption
    isplitl [Hp1]; · iexact Hp1
    isplitl [Hp2]; · iexact Hp2
    isplitl [Hp3] <;> iassumption
  unfold four
  iintro ⟨HO, Hout, Hov, ⟨Hp1, Hp2, Hp3, Hp4⟩⟩
  iapply Hk
  isplitl [HO]; · iexact HO
  isplitl [Hout]; · iexact Hout
  isplitr [Hov]
  · isplitl [Ha1 Hc1 Hp1]
    · iapply (Entails.of_eq (sent_eq m ρ c h' (dst h) hs true 0).symm)
      isplitl [Ha1]; · iexact Ha1
      isplitl [Hc1] <;> iassumption
    isplitl [Ha2 Hc2 Hp2]
    · iapply (Entails.of_eq (sent_eq m ρ c h' (dst h) hs false 0).symm)
      isplitl [Ha2]; · iexact Ha2
      isplitl [Hc2] <;> iassumption
    isplitl [Ha3 Hc3 Hp3]
    · iapply (Entails.of_eq (sent_eq m ρ c h' (dst h) hs true 1).symm)
      isplitl [Ha3]; · iexact Ha3
      isplitl [Hc3] <;> iassumption
    iapply (Entails.of_eq (sent_eq m ρ c h' (dst h) hs false 1).symm)
    isplitl [Ha4]; · iexact Ha4
    isplitl [Hc4] <;> iassumption
  iexact Hov

/-- The last hop. -/
theorem last_step (c : Dev nD) (S : Finset (Bool × Fin 8)) (Q : PUnit → sProp 𝕄) :
    iprop(records m ρ K ∗ levAts L lv ∗ ow c 0 ∗ outUpTo m ρ c S ∗ four (sent m ρ c 6) ∗ four (toRecv c 6))
      ⊢ iprop((ow c 0 ∗ outUpTo m ρ c (insert (false, dst 6) (insert (true, dst 6) S)) ∗ four (over m ρ c 6)
          ∗ four (fun d s => landedPts m ρ d c (dst 6) s fullShare) -∗ Q ⟨⟩)
        -∗ run c (lastP c (bv m ρ c)) Q) := by
  unfold lastP
  simp only [wp_bind]
  iintro ⟨#Hr, #Hlev, HO, Hout, Hs, Hv⟩ Hk
  unfold four
  icases Hv with ⟨Hv1, Hv2, Hv3, Hv4⟩
  iapply (recv_step m ρ K c true 6 0 0 (above_zero _)) $$ [HO Hv1]
  · isplitr; · iexact Hr
    isplitr; · iexact Hlev
    isplitl [HO] <;> iassumption
  iintro ⟨HO, Hz1, Hp1⟩
  iapply (recv_step m ρ K c false 6 0 0 (above_zero _)) $$ [HO Hv2]
  · isplitr; · iexact Hr
    isplitr; · iexact Hlev
    isplitl [HO] <;> iassumption
  iintro ⟨HO, Hz2, Hp2⟩
  iapply (recv_step m ρ K c true 6 1 0 (above_zero _)) $$ [HO Hv3]
  · isplitr; · iexact Hr
    isplitr; · iexact Hlev
    isplitl [HO] <;> iassumption
  iintro ⟨HO, Hz3, Hp3⟩
  iapply (recv_step m ρ K c false 6 1 0 (above_zero _)) $$ [HO Hv4]
  · isplitr; · iexact Hr
    isplitr; · iexact Hlev
    isplitl [HO] <;> iassumption
  iintro ⟨HO, Hz4, Hp4⟩
  iapply (tail_step m ρ K c 6 fullShare S 0 (above_zero _)) $$ [HO Hout Hs Hz1 Hz2 Hz3 Hz4 Hp1 Hp2 Hp3 Hp4]
  · unfold four
    isplitr; · iexact Hr
    isplitr; · iexact Hlev
    isplitl [HO]; · iexact HO
    isplitl [Hout]; · iexact Hout
    isplitl [Hs]; · iexact Hs
    isplitl [Hz1 Hz2 Hz3 Hz4]
    · isplitl [Hz1]; · iexact Hz1
      isplitl [Hz2]; · iexact Hz2
      isplitl [Hz3] <;> iassumption
    isplitl [Hp1]; · iexact Hp1
    isplitl [Hp2]; · iexact Hp2
    isplitl [Hp3] <;> iassumption
  unfold four
  iexact Hk

/-! ## The barrier -/

/-- What a device hands over of its buffer of direction `d`: every slot but its own. -/
def give (d : Bool) (c : Dev nD) : sProp 𝕄 :=
  bigSep Finset.univ fun h : Fin 7 => iprop((∃ f, winPts d c (dst h) 0 fullShare f) ∗ ∃ f, winPts d c (dst h) 1 fullShare f)

/-- What a neighbour's barrier hands over is what the device gave of the buffer of that direction. -/
theorem barPay_eq (d d' : Bool) (hd : d' = !d) (c : Dev nD) : (barPay d (nb d' c) : sProp 𝕄) = give d c := by
  subst hd
  unfold barPay give landing
  rw [nb_nb]

/-- The barrier: each neighbour gets the slots it will send into, and this device its neighbours'. -/
theorem bar_step (c nL nR : Dev nD) (hL : nL = nb false c) (hR : nR = nb true c) (Q : PUnit → sProp 𝕄) :
    iprop(records m ρ K ∗ levAts L lv ∗ ow c (O₀ c) ∗ give true c ∗ give false c
        ∗ dutyTok ER (barCell (nb false c)) 0 true ∗ dutyTok ER (barCell (nb true c)) 0 false
        ∗ atPos ER (barCell c) 0 ∅ 0 ∗ cred (tallyAt (barCell c) () 2))
      ⊢ iprop((ow c (owe c [0, 1, 2, 3, 4, 5, 6]) ∗ semVal (barCell c) 0 ∗ barPay true c ∗ barPay false c -∗ Q ⟨⟩)
        -∗ run c (barP nL nR) Q) := by
  subst hL hR
  unfold ow barP O₀
  simp only [semSignalWord, semWaitWord, Prog.lift, Prog.bind_op, Prog.bind_ret]
  iintro ⟨#Hr, #Hlev, ⟨%W, HO⟩, HgR, HgL, HtL, HtR, Hat, Hc⟩ Hk
  iapply (Rounds.wp_signal 𝒱₀ ER (sched m ρ) (c : Thread nD τ) none (dst := (nb false c : Thread nD τ)) (κ := K (nb false c, none))
      (d := true) (by rw [duties_bar]; exact Finset.mem_univ _) ((amount_bar m ρ (nb false c) true).trans (by decide)) ()
      (owe c [0, 1, 2, 3, 4, 5, 6] + tallyAt (barCell (nb true c)) () 1) rfl) $$ [HO HtL HgR]
  · isplitr; · iapply (records_inv m ρ K (nb false c) none); iexact Hr
    isplitl [HO]; · iexact HO
    isplitl [HtL]; · iexact HtL
    isplitl [HgR]; · rw [payload_bar, barPay_eq true false rfl]; iexact HgR
    iapply (records_reached m ρ K (nb false c) none); iexact Hr
  iintro HO
  iapply (Rounds.wp_signal 𝒱₀ ER (sched m ρ) (c : Thread nD τ) none (dst := (nb true c : Thread nD τ)) (κ := K (nb true c, none))
      (d := false) (by rw [duties_bar]; exact Finset.mem_univ _) ((amount_bar m ρ (nb true c) false).trans (by decide)) ()
      (owe c [0, 1, 2, 3, 4, 5, 6]) rfl) $$ [HO HtR HgL]
  · isplitr; · iapply (records_inv m ρ K (nb true c) none); iexact Hr
    isplitl [HO]; · iexact HO
    isplitl [HtR]; · iexact HtR
    isplitl [HgL]; · rw [payload_bar, barPay_eq false true rfl]; iexact HgL
    iapply (records_reached m ρ K (nb true c) none); iexact Hr
  iintro HO
  iapply (Rounds.wp_wait_rest_token 𝒱₀ ER (sched m ρ) (c : Thread nD τ) none (κ := K (c, none))
      (wpE_semWait_eq 𝒱₀ (c : Thread nD τ) none Set.univ) (Set.mem_univ _) () (O := owe c [0, 1, 2, 3, 4, 5, 6]) (W := W) (R := 0) (m := 0) (T := ∅)
      (by rw [expect_bar]; decide)) $$ [HO Hat Hc]
  · isplitr; · iapply (records_inv m ρ K c none); iexact Hr
    isplitl [Hc]; · iexact Hc
    isplitl [HO]; · iexact HO
    isplitr
    · iapply (mayWait c (.reg barS) 2 (by rw [lv_cell c none]; decide) (above_owe c _ fun h _ => by omega)); iexact Hlev
    iexact Hat
  iintro ⟨HO, Hat, -, Hpay⟩
  ihave Hp := (Entails.of_eq (rest_bar m ρ c)) $$ Hpay
  icases Hp with ⟨HpR, HpL⟩
  rw [wp_ret]
  imod (Rounds.cell_close ER (sched m ρ) (Set.mem_univ (K (c, none))) (fun h => h) (R := 0 + 1) (duties_later m ρ (barCell c))) $$ [Hat] with Hz
  · isplitr; · iapply (records_inv m ρ K c none); iexact Hr
    iexact Hat
  imodintro
  iapply Hk
  isplitl [HO]; · iexists _; iexact HO
  isplitl [Hz]; · iexact Hz
  isplitl [HpR] <;> iassumption

/-! ## The device's own half blocks -/

/-- Both own half blocks into slot 7, on their way, and multiplied. -/
theorem own_step (c : Dev nD) (l : List (Fin 7)) (X : (cc0_stg2_0 : Ref sig .tc).ty.Contents (Elt F))
    (fR : Buf (Elt F) ((comm true).view.loc (c : Thread nD τ))) (fL : Buf (Elt F) ((comm false).view.loc (c : Thread nD τ)))
    (Q : FVec F S512x1024 .bf16 → sProp 𝕄) :
    iprop(records m ρ K ∗ ow c (owe c (0 :: l))
        ∗ (((c : Thread nD τ).loc cc0_stg0_0) ↦{fullShare} xstg m ρ c) ∗ (((c : Thread nD τ).loc cc0_stg1_0) ↦{fullShare} bstg m ρ c)
        ∗ (((c : Thread nD τ).loc cc0_stg2_0) ↦{fullShare} X)
        ∗ (winPts true c 7 0 fullShare fR ∗ winPts true c 7 1 fullShare fR) ∗ (winPts false c 7 0 fullShare fL ∗ winPts false c 7 1 fullShare fL)
        ∗ four (toSend c 0) ∗ four (landing c · 0 ·))
      ⊢ iprop((ow c (owe c l)
          ∗ (((c : Thread nD τ).loc cc0_stg0_0) ↦{fullShare} xstg m ρ c) ∗ (((c : Thread nD τ).loc cc0_stg1_0) ↦{fullShare} bstg m ρ c)
          ∗ outUpTo m ρ c (insert (false, 7) (insert (true, 7) ∅)) ∗ four (sent m ρ c 0) -∗ Q (bv m ρ c))
        -∗ run c (ownP c) Q) := by
  have e7 : src 0 = 7 := rfl
  unfold ownP sendsP four
  simp only [wp_bind]
  simp only [Prog.lift, Prog.pure_eq_ret]
  iintro ⟨#Hr, HO, Hx, Hb, Hout, HR, HL, ⟨Ht1, Ht2, Ht3, Ht4⟩, ⟨Hd1, Hd2, Hd3, Hd4⟩⟩ Hk
  iapply (wp_load 𝒱₀ (c : Thread nD τ) none Set.univ (m := mB) (Finset.subset_univ _)) $$ Hb; iintro Hb
  rw [wp_ret, show k0_pay1 (View.readAt (Elt F) mB.view (Rect.unit ![0, 0] ![512, 1024] inb_S512x1024_S512x1024_0_0).toLoadRect (bstg m ρ c)) = bv m ρ c from rfl]; imodintro
  iapply (fill_step m ρ c true _ _ rfl fR) $$ [Hx HR]
  · isplitl [Hx] <;> iassumption
  iintro ⟨Hx, Hp1, Hp3⟩
  iapply (fill_step m ρ c false _ _ rfl fL) $$ [Hx HL]
  · isplitl [Hx] <;> iassumption
  iintro ⟨Hx, Hp2, Hp4⟩
  rw [owe_cons]
  iapply (send_step m ρ K c _ true 0 0 (right_eq _ c (k0_dev3_eq c))) $$ [HO Ht1 Hd1 Hp1]
  · isplitr; · iexact Hr
    isplitl [HO]; · iexact HO
    isplitl [Ht1]; · iexact Ht1
    isplitl [Hd1]; · iexact Hd1
    iapply (landed_src m ρ c 0 7 e7 true 0); iexact Hp1
  iintro ⟨HO, Hn1⟩
  iapply (send_step m ρ K c _ false 0 0 (left_eq _ c (k0_dev4_eq c))) $$ [HO Ht2 Hd2 Hp2]
  · isplitr; · iexact Hr
    isplitl [HO]; · iexact HO
    isplitl [Ht2]; · iexact Ht2
    isplitl [Hd2]; · iexact Hd2
    iapply (landed_src m ρ c 0 7 e7 false 0); iexact Hp2
  iintro ⟨HO, Hn2⟩
  iapply (send_step m ρ K c _ true 0 1 (right_eq _ c (k0_dev5_eq c))) $$ [HO Ht3 Hd3 Hp3]
  · isplitr; · iexact Hr
    isplitl [HO]; · iexact HO
    isplitl [Ht3]; · iexact Ht3
    isplitl [Hd3]; · iexact Hd3
    iapply (landed_src m ρ c 0 7 e7 true 1); iexact Hp3
  iintro ⟨HO, Hn3⟩
  iapply (send_step m ρ K c _ false 0 1 (left_eq _ c (k0_dev6_eq c))) $$ [HO Ht4 Hd4 Hp4]
  · isplitr; · iexact Hr
    isplitl [HO]; · iexact HO
    isplitl [Ht4]; · iexact Ht4
    isplitl [Hd4]; · iexact Hd4
    iapply (landed_src m ρ c 0 7 e7 false 1); iexact Hp4
  iintro ⟨HO, Hn4⟩
  ihave Hn1 := (Entails.of_eq (sent_eq m ρ c 0 7 e7 true 0)) $$ Hn1
  ihave Hn2 := (Entails.of_eq (sent_eq m ρ c 0 7 e7 false 0)) $$ Hn2
  ihave Hn3 := (Entails.of_eq (sent_eq m ρ c 0 7 e7 true 1)) $$ Hn3
  ihave Hn4 := (Entails.of_eq (sent_eq m ρ c 0 7 e7 false 1)) $$ Hn4
  icases Hn1 with ⟨Ha1, Hc1, Hp1⟩
  icases Hn2 with ⟨Ha2, Hc2, Hp2⟩
  icases Hn3 with ⟨Ha3, Hc3, Hp3⟩
  icases Hn4 with ⟨Ha4, Hc4, Hp4⟩
  iapply (mul_step m ρ c true 7 fullShare.right ∅ _ _ (off1_eq c)) $$ [Hp1 Hp3 Hout]
  · isplitl [Hp1]; · iexact Hp1
    isplitl [Hp3]; · iexact Hp3
    unfold outUpTo
    iexists X
    isplitr
    · ipureintro; exact agree_empty m ρ c X
    iexact Hout
  iintro ⟨Hp1, Hp3, Hout⟩
  iapply (mul_step m ρ c false 7 fullShare.right _ _ _ (off2_eq c)) $$ [Hp2 Hp4 Hout]
  · isplitl [Hp2]; · iexact Hp2
    isplitl [Hp4]; · iexact Hp4
    iexact Hout
  iintro ⟨Hp2, Hp4, Hout⟩
  rw [wp_ret]; imodintro
  iapply Hk
  isplitl [HO]; · iexact HO
  isplitl [Hx]; · iexact Hx
  isplitl [Hb]; · iexact Hb
  isplitl [Hout]; · iexact Hout
  isplitl [Ha1 Hc1 Hp1]
  · iapply (Entails.of_eq (sent_eq m ρ c 0 7 e7 true 0).symm)
    isplitl [Ha1]; · iexact Ha1
    isplitl [Hc1] <;> iassumption
  isplitl [Ha2 Hc2 Hp2]
  · iapply (Entails.of_eq (sent_eq m ρ c 0 7 e7 false 0).symm)
    isplitl [Ha2]; · iexact Ha2
    isplitl [Hc2] <;> iassumption
  isplitl [Ha3 Hc3 Hp3]
  · iapply (Entails.of_eq (sent_eq m ρ c 0 7 e7 true 1).symm)
    isplitl [Ha3]; · iexact Ha3
    isplitl [Hc3] <;> iassumption
  iapply (Entails.of_eq (sent_eq m ρ c 0 7 e7 false 1).symm)
  isplitl [Ha4]; · iexact Ha4
  isplitl [Hc4] <;> iassumption

end Cert.KernelIdeal.Hops

end
-- ==== Proof.Body.lean ====
module

public import proofs.«01_k».proof.Proof.Hop

/-! # A device's program, from the barrier to the last product -/

@[expose] public section

noncomputable section

namespace Cert.KernelIdeal.Hops

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
variable (m : (ℓ : Loc nD τ sig) → Buf (Elt F) ℓ) (ρ : Dev nD → PrngReg)

local notation "𝕄" => MM F

/-! ## Families over the hops, spelled out -/

/-- Over the seven hops. -/
theorem bigSep_hops (Φ : Fin 7 → sProp 𝕄) :
    bigSep Finset.univ Φ = iprop(Φ 0 ∗ Φ 1 ∗ Φ 2 ∗ Φ 3 ∗ Φ 4 ∗ Φ 5 ∗ Φ 6) :=
  bigSep_univ_eq_bigSepL [0, 1, 2, 3, 4, 5, 6] (by decide) (by decide) Φ

/-- Over the eight slots, the own one first. -/
theorem bigSep_slots (Φ : Fin 8 → sProp 𝕄) :
    bigSep Finset.univ Φ = iprop(Φ 7 ∗ Φ 0 ∗ Φ 1 ∗ Φ 2 ∗ Φ 3 ∗ Φ 4 ∗ Φ 5 ∗ Φ 6) :=
  bigSep_univ_eq_bigSepL [7, 0, 1, 2, 3, 4, 5, 6] (by decide) (by decide) Φ

/-- Over the two pieces. -/
theorem bigSep_pieces (Φ : Fin 2 → sProp 𝕄) : bigSep Finset.univ Φ = iprop(Φ 0 ∗ Φ 1) :=
  bigSep_univ_eq_bigSepL [0, 1] (by decide) (by decide) Φ

/-- A transfer's name from its hop, its piece and direction, and whether it is received. -/
def nameOf : Fin 7 × (Fin 2 × Bool) × Bool ≃ XI where
  toFun x := (x.2.2, x.2.1.2, x.1, x.2.1.1)
  invFun y := (y.2.2.1, (y.2.2.2, y.2.1), y.1)
  left_inv _ := rfl
  right_inv _ := rfl

/-- A family over the transfers is one over the hops: of each its four pieces, sent and received. -/
theorem bigSep_transfers (Φ : XI → sProp 𝕄) :
    bigSep Finset.univ Φ = bigSep Finset.univ fun h : Fin 7 => four fun d s => iprop(Φ (false, d, h, s) ∗ Φ (true, d, h, s)) := by
  rw [bigSep_univ_equiv nameOf, bigSep_univ_prod]
  refine bigSep_congr fun h _ => ?_
  rw [bigSep_univ_prod, bigSep_univ_eq_bigSepL [((0 : Fin 2), true), (0, false), (1, true), (1, false)] (by decide) (by decide)]
  simp only [bigSepL_cons_cons, bigSepL_singleton, bigSep_univ_eq_bigSepL [false, true] (by decide) (by decide)]
  rfl

/-- Two propositions for each piece of a hop. -/
theorem four_sep (P Q : Bool → Fin 2 → sProp 𝕄) : iprop(four P ∗ four Q) = four fun d s => iprop(P d s ∗ Q d s) := by
  have there : iprop(four P ∗ four Q) ⊢ four fun d s => iprop(P d s ∗ Q d s) := by
    unfold four
    iintro ⟨⟨H1, H2, H3, H4⟩, H5, H6, H7, H8⟩
    isplitl [H1 H5]; · isplitl [H1] <;> iassumption
    isplitl [H2 H6]; · isplitl [H2] <;> iassumption
    isplitl [H3 H7]; · isplitl [H3] <;> iassumption
    isplitl [H4] <;> iassumption
  have back : (four fun d s => iprop(P d s ∗ Q d s)) ⊢ iprop(four P ∗ four Q) := by
    unfold four
    iintro ⟨⟨H1, H5⟩, ⟨H2, H6⟩, ⟨H3, H7⟩, H4, H8⟩
    isplitl [H1 H2 H3 H4]
    · isplitl [H1]; · iexact H1
      isplitl [H2]; · iexact H2
      isplitl [H3] <;> iassumption
    isplitl [H5]; · iexact H5
    isplitl [H6]; · iexact H6
    isplitl [H7] <;> iassumption
  exact BI.Entails.antisymm there back

/-- Four pieces by direction. -/
theorem four_dirs (P : Bool → Fin 2 → sProp 𝕄) : iprop((P true 0 ∗ P true 1) ∗ P false 0 ∗ P false 1) = four P := by
  have there : iprop((P true 0 ∗ P true 1) ∗ P false 0 ∗ P false 1) ⊢ four P := by
    unfold four
    iintro ⟨⟨H1, H2⟩, H3, H4⟩
    isplitl [H1]; · iexact H1
    isplitl [H3]; · iexact H3
    isplitl [H2] <;> iassumption
  have back : four P ⊢ iprop((P true 0 ∗ P true 1) ∗ P false 0 ∗ P false 1) := by
    unfold four
    iintro ⟨H1, H3, H2, H4⟩
    isplitl [H1 H2]; · isplitl [H1] <;> iassumption
    isplitl [H3] <;> iassumption
  exact BI.Entails.antisymm there back

/-! ## Whole exchange buffers -/

/-- An exchange buffer, whole. -/
def commPts (d : Bool) (c : Dev nD) (f : Buf (Elt F) ((comm d).view.loc (c : Thread nD τ))) : sProp 𝕄 :=
  (comm d).view.loc (c : Thread nD τ) ↦{fullShare} f

/-- It is its slots, and these their pieces. -/
theorem commPts_eq (d : Bool) (c : Dev nD) (f : Buf (Elt F) ((comm d).view.loc (c : Thread nD τ))) :
    (commPts d c f : sProp 𝕄) = bigSep Finset.univ fun j : Fin 8 => iprop(winPts d c j 0 fullShare f ∗ winPts d c j 1 fullShare f) := by
  unfold commPts winPts
  rw [Ring.pointsTo_blocks (fun p : Fin 8 × Fin 2 => winSet d p.1 p.2) (win_disjoint d) (win_cover d) f, bigSep_univ_prod]
  exact bigSep_congr fun j _ => bigSep_pieces _

/-- At entry: the own slot, and the slots to hand over. -/
theorem comm_enter (d : Bool) (c : Dev nD) (f : Buf (Elt F) ((comm d).view.loc (c : Thread nD τ))) :
    (commPts d c f : sProp 𝕄) ⊢ iprop((winPts d c 7 0 fullShare f ∗ winPts d c 7 1 fullShare f) ∗ give d c) := by
  rw [commPts_eq, bigSep_slots]
  unfold give
  refine sep_mono_right ?_
  refine (Entails.of_eq (bigSep_hops fun h => iprop(winPts d c (dst h) 0 fullShare f ∗ winPts d c (dst h) 1 fullShare f)).symm).trans (bigSep_mono fun h _ =>
    show iprop(winPts d c (dst h) 0 fullShare f ∗ winPts d c (dst h) 1 fullShare f)
      ⊢ iprop((∃ f, winPts d c (dst h) 0 fullShare f) ∗ ∃ f, winPts d c (dst h) 1 fullShare f) from ?_)
  iintro ⟨H1, H2⟩
  isplitl [H1] <;> (iexists f; iassumption)

/-- At exit: the source slots of the hops, and the last one to arrive. -/
theorem comm_exit (d : Bool) (c : Dev nD) :
    iprop((bigSep Finset.univ fun h : Fin 7 => iprop(landedPts m ρ d c (src h) 0 fullShare ∗ landedPts m ρ d c (src h) 1 fullShare))
        ∗ landedPts m ρ d c (dst 6) 0 fullShare ∗ landedPts m ρ d c (dst 6) 1 fullShare)
      ⊢ (commPts d c (landed m ρ d c) : sProp 𝕄) := by
  rw [commPts_eq, bigSep_slots, bigSep_hops]
  iintro ⟨⟨H0, H1, H2, H3, H4, H5, H6⟩, H7⟩
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-! ## The program -/

/-- What a device has for a hop from the launch. -/
def ready (c : Dev nD) (h : Fin 7) : sProp 𝕄 := iprop(four (toRecv c h) ∗ four (toSend c h))

/-- What a device has at the barrier from the launch. -/
def barReady (c : Dev nD) : sProp 𝕄 :=
  iprop(dutyTok ER (barCell (nb false c)) 0 true ∗ dutyTok ER (barCell (nb true c)) 0 false
    ∗ atPos ER (barCell c) 0 ∅ 0 ∗ cred (tallyAt (barCell c) () 2))

/-- The neighbours' slots by hop. -/
theorem landings_eq (c : Dev nD) :
    (iprop(barPay true c ∗ barPay false c) : sProp 𝕄) = bigSep Finset.univ fun h : Fin 7 => four fun d s => landing c d h s := by
  unfold barPay
  rw [← bigSep_sep']
  exact bigSep_congr fun h _ => four_dirs fun d s => landing c d h s

variable (K : Dev nD × CI → ℕ)

/-- The whole program, from the launch's deal and the staged operands to the final result. -/
theorem main_step (c : Dev nD) (X : (cc0_stg2_0 : Ref sig .tc).ty.Contents (Elt F))
    (fR : Buf (Elt F) ((comm true).view.loc (c : Thread nD τ))) (fL : Buf (Elt F) ((comm false).view.loc (c : Thread nD τ))) (Q : PUnit → sProp 𝕄) :
    iprop(records m ρ K ∗ levAts L lv ∗ ow c (O₀ c) ∗ barReady c ∗ (bigSep Finset.univ (ready c))
        ∗ commPts true c fR ∗ commPts false c fL
        ∗ (((c : Thread nD τ).loc cc0_stg0_0) ↦{fullShare} xstg m ρ c) ∗ (((c : Thread nD τ).loc cc0_stg1_0) ↦{fullShare} bstg m ρ c)
        ∗ (((c : Thread nD τ).loc cc0_stg2_0) ↦{fullShare} X))
      ⊢ iprop((ow c 0 ∗ (bigSep Finset.univ fun h : Fin 7 => four (over m ρ c h)) ∗ four (fun d s => landedPts m ρ d c (dst 6) s fullShare)
          ∗ semVal (barCell c) 0
          ∗ (((c : Thread nD τ).loc cc0_stg0_0) ↦{fullShare} xstg m ρ c) ∗ (((c : Thread nD τ).loc cc0_stg1_0) ↦{fullShare} bstg m ρ c)
          ∗ (((c : Thread nD τ).loc cc0_stg2_0) ↦{fullShare} outAt m ρ c) -∗ Q ⟨⟩)
        -∗ run c (mainP c) Q) := by
  unfold mainP barReady ready
  simp only [wp_bind]
  iintro ⟨#Hr, #Hlev, HO, ⟨Ht1, Ht2, Ha, Hc⟩, Hready, HcR, HcL, Hx, Hb, Hout⟩ Hk
  ihave HR := (comm_enter true c fR) $$ HcR
  ihave HL := (comm_enter false c fL) $$ HcL
  icases HR with ⟨HR, HgR⟩
  icases HL with ⟨HL, HgL⟩
  iapply (bar_step m ρ K c _ _ (left_eq _ c (k0_dev1_eq c)) (right_eq _ c (k0_dev2_eq c))) $$ [HO Ht1 Ht2 Ha Hc HgR HgL]
  · isplitr; · iexact Hr
    isplitr; · iexact Hlev
    isplitl [HO]; · iexact HO
    isplitl [HgR]; · iexact HgR
    isplitl [HgL]; · iexact HgL
    isplitl [Ht1]; · iexact Ht1
    isplitl [Ht2]; · iexact Ht2
    isplitl [Ha] <;> iassumption
  iintro ⟨HO, Hz, Hd⟩
  ihave Hd := (Entails.of_eq ((landings_eq c).trans (bigSep_hops _))) $$ Hd
  ihave Hready := (Entails.of_eq (bigSep_hops _)) $$ Hready
  icases Hd with ⟨Hd0, Hd1, Hd2, Hd3, Hd4, Hd5, Hd6⟩
  icases Hready with ⟨⟨Hr0, Hs0⟩, ⟨Hr1, Hs1⟩, ⟨Hr2, Hs2⟩, ⟨Hr3, Hs3⟩, ⟨Hr4, Hs4⟩, ⟨Hr5, Hs5⟩, ⟨Hr6, Hs6⟩⟩
  iapply (own_step m ρ K c [1, 2, 3, 4, 5, 6] X fR fL) $$ [HO Hx Hb Hout HR HL Hs0 Hd0]
  · isplitr; · iexact Hr
    isplitl [HO]; · iexact HO
    isplitl [Hx]; · iexact Hx
    isplitl [Hb]; · iexact Hb
    isplitl [Hout]; · iexact Hout
    isplitl [HR]; · iexact HR
    isplitl [HL]; · iexact HL
    isplitl [Hs0] <;> iassumption
  iintro ⟨HO, Hx, Hb, Hout, Hf⟩
  iapply (hop_step m ρ K c 0 1 rfl [2, 3, 4, 5, 6] (by decide) _ _ _ _ _ (right_eq _ c (k0_dev7_eq c)) (left_eq _ c (k0_dev8_eq c))
    (right_eq _ c (k0_dev9_eq c)) (left_eq _ c (k0_dev10_eq c))) $$ [HO Hout Hf Hr0 Hs1 Hd1]
  · isplitr; · iexact Hr
    isplitr; · iexact Hlev
    isplitl [HO]; · iexact HO
    isplitl [Hout]; · iexact Hout
    isplitl [Hf]; · iexact Hf
    isplitl [Hr0]; · iexact Hr0
    isplitl [Hs1] <;> iassumption
  iintro ⟨HO, Hout, Hf, He0⟩
  iapply (hop_step m ρ K c 1 2 rfl [3, 4, 5, 6] (by decide) _ _ _ _ _ (right_eq _ c (k0_dev11_eq c)) (left_eq _ c (k0_dev12_eq c))
    (right_eq _ c (k0_dev13_eq c)) (left_eq _ c (k0_dev14_eq c))) $$ [HO Hout Hf Hr1 Hs2 Hd2]
  · isplitr; · iexact Hr
    isplitr; · iexact Hlev
    isplitl [HO]; · iexact HO
    isplitl [Hout]; · iexact Hout
    isplitl [Hf]; · iexact Hf
    isplitl [Hr1]; · iexact Hr1
    isplitl [Hs2] <;> iassumption
  iintro ⟨HO, Hout, Hf, He1⟩
  iapply (hop_step m ρ K c 2 3 rfl [4, 5, 6] (by decide) _ _ _ _ _ (right_eq _ c (k0_dev15_eq c)) (left_eq _ c (k0_dev16_eq c))
    (right_eq _ c (k0_dev17_eq c)) (left_eq _ c (k0_dev18_eq c))) $$ [HO Hout Hf Hr2 Hs3 Hd3]
  · isplitr; · iexact Hr
    isplitr; · iexact Hlev
    isplitl [HO]; · iexact HO
    isplitl [Hout]; · iexact Hout
    isplitl [Hf]; · iexact Hf
    isplitl [Hr2]; · iexact Hr2
    isplitl [Hs3] <;> iassumption
  iintro ⟨HO, Hout, Hf, He2⟩
  iapply (hop_step m ρ K c 3 4 rfl [5, 6] (by decide) _ _ _ _ _ (right_eq _ c (k0_dev19_eq c)) (left_eq _ c (k0_dev20_eq c))
    (right_eq _ c (k0_dev21_eq c)) (left_eq _ c (k0_dev22_eq c))) $$ [HO Hout Hf Hr3 Hs4 Hd4]
  · isplitr; · iexact Hr
    isplitr; · iexact Hlev
    isplitl [HO]; · iexact HO
    isplitl [Hout]; · iexact Hout
    isplitl [Hf]; · iexact Hf
    isplitl [Hr3]; · iexact Hr3
    isplitl [Hs4] <;> iassumption
  iintro ⟨HO, Hout, Hf, He3⟩
  iapply (hop_step m ρ K c 4 5 rfl [6] (by decide) _ _ _ _ _ (right_eq _ c (k0_dev23_eq c)) (left_eq _ c (k0_dev24_eq c))
    (right_eq _ c (k0_dev25_eq c)) (left_eq _ c (k0_dev26_eq c))) $$ [HO Hout Hf Hr4 Hs5 Hd5]
  · isplitr; · iexact Hr
    isplitr; · iexact Hlev
    isplitl [HO]; · iexact HO
    isplitl [Hout]; · iexact Hout
    isplitl [Hf]; · iexact Hf
    isplitl [Hr4]; · iexact Hr4
    isplitl [Hs5] <;> iassumption
  iintro ⟨HO, Hout, Hf, He4⟩
  iapply (hop_step m ρ K c 5 6 rfl [] (by decide) _ _ _ _ _ (right_eq _ c (k0_dev27_eq c)) (left_eq _ c (k0_dev28_eq c))
    (right_eq _ c (k0_dev29_eq c)) (left_eq _ c (k0_dev30_eq c))) $$ [HO Hout Hf Hr5 Hs6 Hd6]
  · isplitr; · iexact Hr
    isplitr; · iexact Hlev
    isplitl [HO]; · iexact HO
    isplitl [Hout]; · iexact Hout
    isplitl [Hf]; · iexact Hf
    isplitl [Hr5]; · iexact Hr5
    isplitl [Hs6] <;> iassumption
  iintro ⟨HO, Hout, Hf, He5⟩
  iapply (last_step m ρ K c _) $$ [HO Hout Hf Hr6]
  · isplitr; · iexact Hr
    isplitr; · iexact Hlev
    isplitl [HO]; · iexact HO
    isplitl [Hout]; · iexact Hout
    isplitl [Hf] <;> iassumption
  iintro ⟨HO, Hout, He6, Hp⟩
  unfold outUpTo
  icases Hout with ⟨%Y, %hY, Hout⟩
  have hY' := agree_all m ρ c Y _ (by decide) hY
  subst hY'
  iapply Hk
  isplitl [HO]; · iexact HO
  isplitl [He0 He1 He2 He3 He4 He5 He6]
  · iapply (Entails.of_eq (bigSep_hops fun h => four (over m ρ c h)).symm)
    isplitl [He0]; · iexact He0
    isplitl [He1]; · iexact He1
    isplitl [He2]; · iexact He2
    isplitl [He3]; · iexact He3
    isplitl [He4]; · iexact He4
    isplitl [He5]; · iexact He5
    iexact He6
  isplitl [Hp]; · iexact Hp
  isplitl [Hz]; · iexact Hz
  isplitl [Hx]; · iexact Hx
  isplitl [Hb] <;> iassumption

/-! ## What is left at the end -/

/-- A finished piece by what it leaves: counters at zero, and its source. -/
theorem over_four (c : Dev nD) (h : Fin 7) :
    (four (over m ρ c h) : sProp 𝕄) ⊢ iprop(four (fun d s => iprop(semVal (sendCell c d h s) 0 ∗ semVal (recvCell c d h s) 0))
      ∗ (landedPts m ρ true c (src h) 0 fullShare ∗ landedPts m ρ true c (src h) 1 fullShare)
      ∗ landedPts m ρ false c (src h) 0 fullShare ∗ landedPts m ρ false c (src h) 1 fullShare) := by
  rw [four_dirs fun d s => landedPts m ρ d c (src h) s fullShare, four_sep]
  unfold four over
  iintro ⟨⟨H1, H1', H1''⟩, ⟨H2, H2', H2''⟩, ⟨H3, H3', H3''⟩, H4, H4', H4''⟩
  isplitl [H1 H1' H1'']
  · isplitl [H1 H1']; · isplitl [H1] <;> iassumption
    iexact H1''
  isplitl [H2 H2' H2'']
  · isplitl [H2 H2']; · isplitl [H2] <;> iassumption
    iexact H2''
  isplitl [H3 H3' H3'']
  · isplitl [H3 H3']; · isplitl [H3] <;> iassumption
    iexact H3''
  isplitl [H4 H4']; · isplitl [H4] <;> iassumption
  iexact H4''

/-- At the end every transfer's counter is zero and both exchange buffers are whole. -/
theorem all_over (c : Dev nD) :
    iprop((bigSep Finset.univ fun h : Fin 7 => four (over m ρ c h)) ∗ four (fun d s => landedPts m ρ d c (dst 6) s fullShare))
      ⊢ (iprop((bigSep Finset.univ fun x : XI => semVal (cell c (some x)) 0)
          ∗ commPts true c (landed m ρ true c) ∗ commPts false c (landed m ρ false c)) : sProp 𝕄) := by
  rw [bigSep_transfers, ← four_dirs]
  have parts : (bigSep Finset.univ fun h : Fin 7 => four (over m ρ c h))
      ⊢ iprop((bigSep Finset.univ fun h : Fin 7 => four fun d s => iprop(semVal (sendCell c d h s) 0 ∗ semVal (recvCell c d h s) 0))
        ∗ (bigSep Finset.univ fun h : Fin 7 => iprop(landedPts m ρ true c (src h) 0 fullShare ∗ landedPts m ρ true c (src h) 1 fullShare))
        ∗ bigSep Finset.univ fun h : Fin 7 => iprop(landedPts m ρ false c (src h) 0 fullShare ∗ landedPts m ρ false c (src h) 1 fullShare)) := by
    rw [← bigSep_sep', ← bigSep_sep']
    exact bigSep_mono fun h _ => over_four m ρ c h
  iintro ⟨Ho, HR', HL'⟩
  ihave Ho := parts $$ Ho
  icases Ho with ⟨Hz, HR, HL⟩
  isplitl [Hz]; · iexact Hz
  isplitl [HR HR']
  · iapply (comm_exit m ρ true c); isplitl [HR] <;> iassumption
  iapply (comm_exit m ρ false c); isplitl [HL] <;> iassumption

end Cert.KernelIdeal.Hops

end
-- ==== Proof.Launch.lean ====
module

public import proofs.«01_k».proof.Proof.Body
public import Idealize.ShloMosaic.Lib.Pipeline.CollectiveSegs

/-! # The launch, and the run of the whole mesh -/

@[expose] public section

noncomputable section

namespace Cert.KernelIdeal.Hops

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]
variable (m : (ℓ : Loc nD τ sig) → Buf (Elt F) ℓ) (ρ : Dev nD → PrngReg)

local notation "𝕄" => MM F

/-! ## What the pipeline's one point starts from and leaves -/

/-- What a device's program starts from, beside its buffers. -/
def start (c : Dev nD) : sProp 𝕄 :=
  iprop((∃ K, records m ρ K) ∗ levAts L lv ∗ barReady c ∗ bigSep Finset.univ (ready c))

/-- Before the point: that, and both exchange buffers at any contents. -/
def Φ₀ (c : Dev nD) : sProp 𝕄 := iprop(start m ρ c ∗ (∃ f, commPts true c f) ∗ ∃ f, commPts false c f)

/-- After the point: both exchange buffers filled, and every counter at zero. -/
def Φ₁ (c : Dev nD) : sProp 𝕄 :=
  iprop((commPts true c (landed m ρ true c) ∗ commPts false c (landed m ρ false c))
    ∗ (bigSep Finset.univ fun x : XI => semVal (cell c (some x)) 0) ∗ semVal (barCell c) 0)

/-- The pipeline's proof data. -/
def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m ρ c
    | ⟨1, _⟩ => bstg m ρ c
    | ⟨2, _⟩ => outAt m ρ c
  Φ t := match t with
    | ⟨0, _⟩ => Φ₀ m ρ c
    | ⟨_ + 1, _⟩ => Φ₁ m ρ c
  q _ := fullShare
  owed t := match t with
    | ⟨0, _⟩ => O₀ c
    | ⟨_ + 1, _⟩ => 0

/-- A resource for each window is one for each of the three. -/
theorem bigSep_W (Φ : Fin cfg0.W → sProp 𝕄) : bigSep Finset.univ Φ = iprop(Φ (0 : Fin 3) ∗ Φ (1 : Fin 3) ∗ Φ (2 : Fin 3)) := bigSep_W0 Φ

/-- A staging buffer held at contents `X`. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

/-- Owning a whole buffer at some contents is holding that buffer with them. -/
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄) = stg c b X := by
  unfold owns; simp only [Memref.view_whole, View.read_whole, View.set_whole]

/-- What the pipeline hands the point. -/
def bodyPre (c : Dev nD) : sProp 𝕄 :=
  iprop(Φ₀ m ρ c ∗ (dats m ρ 0 c).owesAt () t0_0.castSucc
    ∗ (∃ d, stg c cc0_stg0_0 ((dats m ρ 0 c).before (0 : Fin 3) t0_0 d))
    ∗ (∃ d, stg c cc0_stg1_0 ((dats m ρ 0 c).before (1 : Fin 3) t0_0 d))
    ∗ (∃ d, stg c cc0_stg2_0 ((dats m ρ 0 c).before (2 : Fin 3) t0_0 d)))

/-- What the point hands back. -/
def bodyPost (c : Dev nD) : sProp 𝕄 :=
  iprop(Φ₁ m ρ c ∗ (dats m ρ 0 c).owesAt () t0_0.succ
    ∗ stg c cc0_stg0_0 (xstg m ρ c) ∗ stg c cc0_stg1_0 (bstg m ρ c) ∗ stg c cc0_stg2_0 (outAt m ρ c))

/-- The point. -/
theorem body_run (c : Dev nD) : bodyPre m ρ c ⊢ run c (bodyAt0 t0_0) (fun _ => bodyPost m ρ c) := by
  rw [body_eq]
  unfold run
  rw [wp_deviceId]
  unfold bodyPre Φ₀ start
  iintro ⟨⟨⟨⟨%K, #Hr⟩, #Hlev, Hbar, Hready⟩, ⟨%fR, HR⟩, ⟨%fL, HL⟩⟩, Ho, ⟨%d0, %g0, %hg0, Hx⟩, ⟨%d1, %g1, %hg1, Hb⟩, ⟨%d2, %g2, %hg2, Hout⟩⟩
  have hx : g0 = xstg m ρ c := by rw [hg0]; unfold Dat.before; rw [if_pos (fetch0_0 t0_0)]; rfl
  have hb : g1 = bstg m ρ c := by rw [hg1]; unfold Dat.before; rw [if_pos (fetch0_1 t0_0)]; rfl
  subst hx hb
  unfold Dat.owesAt Pipeline.owesWithin
  icases Ho with ⟨%W, %hW, HO⟩
  rw [show (dats m ρ 0 c).owed t0_0.castSucc = O₀ c from rfl]
  iapply (main_step m ρ K c g2 fR fL) $$ [HO Hbar Hready HR HL Hx Hb Hout]
  · isplitr; · iexact Hr
    isplitr; · iexact Hlev
    isplitl [HO]; · unfold ow; iexists W; iexact HO
    isplitl [Hbar]; · iexact Hbar
    isplitl [Hready]; · iexact Hready
    isplitl [HR]; · iexact HR
    isplitl [HL]; · iexact HL
    isplitl [Hx]; · iexact Hx
    isplitl [Hb] <;> iassumption
  iintro ⟨HO, Hov, Hp, Hz, Hx, Hb, Hout⟩
  ihave Hall := (all_over m ρ c) $$ [Hov Hp]
  · isplitl [Hov] <;> iassumption
  icases Hall with ⟨Hzs, HRL⟩
  unfold bodyPost Φ₁ Dat.owesAt Pipeline.owesWithin
  rw [show (dats m ρ 0 c).owed t0_0.succ = 0 from rfl]
  isplitl [HRL Hzs Hz]
  · isplitl [HRL]; · iexact HRL
    isplitl [Hzs] <;> iassumption
  isplitl [HO]
  · unfold ow
    icases HO with ⟨%W', HO⟩
    iexists W'
    isplitr; · ipureintro; exact fun _ _ => Or.inl trivial
    iexact HO
  isplitl [Hx]
  · iexists _; isplitr; · (ipureintro; rfl)
    iexact Hx
  isplitl [Hb]
  · iexists _; isplitr; · (ipureintro; rfl)
    iexact Hb
  iexists _; isplitr; · (ipureintro; rfl)
  iexact Hout

set_option maxRecDepth 65536 in
/-- The pipeline's obligation for its body. -/
theorem body_obligation (c : Dev nD) : BodyObligation (dats (F := F) m ρ 0 c) (defs₀ (F := F)) 𝒱₀ () Set.univ := fun t => by
  rw [fin_N0 t]
  rw [bigSep_W, bigSep_W]
  simp only [owns_whole_eq]
  exact body_run m ρ c

/-! ## The cells and tokens dealt at the launch -/

/-- The exchange's own semaphores are no staging semaphores. -/
theorem ownSemFacts : Pipeline.OwnSemFacts cfg0.spec osem := by decide +kernel

/-- The pipeline holds every window's array whole. -/
theorem share_eq (c : Dev nD) (w : Fin cfg0.W) : (dats m ρ 0 c).share w = fullShare := by unfold Dat.share; split <;> rfl

/-- All cells of the mesh. -/
def cells : Finset (GSem nD τ sig) := Finset.univ.map ⟨fun p : Dev nD × CI => cell p.1 p.2, cell_inj⟩

/-- A cell's duty: a transfer's one, or one of a barrier's two. -/
abbrev TI := XI ⊕ Bool

/-- A duty's token. -/
abbrev tok (p : Dev nD × TI) : GSem nD τ sig × ℕ × Bool :=
  (cell p.1 (p.2.elim some fun _ => none), 0, p.2.elim (fun _ => false) id)

/-- Different duties have different tokens. -/
theorem tok_inj : Function.Injective tok := by
  rintro ⟨c, t⟩ ⟨c', t'⟩ e
  have e1 := cell_inj (a₁ := (c, t.elim some fun _ => none)) (a₂ := (c', t'.elim some fun _ => none)) (congrArg Prod.fst e)
  have hc : c = c' := congrArg Prod.fst e1
  have hi : (t.elim some fun _ => none : CI) = t'.elim some fun _ => none := congrArg Prod.snd e1
  have hd : t.elim (fun _ => false) id = t'.elim (fun _ => false) id := congrArg (fun x => x.2.2) e
  subst hc
  rcases t with x | b <;> rcases t' with y | b'
  · rw [Option.some.inj hi]
  · cases hi
  · cases hi
  · rw [show b = b' from hd]

/-- All tokens. -/
def tokens : Finset (GSem nD τ sig × ℕ × Bool) := Finset.univ.map ⟨tok, tok_inj⟩

/-- The ghost state of the launch. -/
def u₀ : UU := (initOf (Pipeline.cells cfgs cellOf_inj) (Pipeline.launchToks cfgs cellOf_inj), initOf cells tokens)

/-- The token of a duty, of the cell's device. -/
def duty (c : Dev nD) (t : TI) : sProp 𝕄 := dutyTok ER (tok (c, t)).1 (tok (c, t)).2.1 (tok (c, t)).2.2

/-- What the launch deals a device. -/
def G (c : Dev nD) : sProp 𝕄 :=
  iprop((bigSep Finset.univ fun i : CI => roundState ER (sched m ρ) (cell c i) 0)
    ∗ (bigSep Finset.univ fun i : CI => iprop(atPos ER (cell c i) 0 ∅ 0 ∗ reached ER (cell c i) 0))
    ∗ bigSep Finset.univ fun t : TI => duty c t)

/-- The launch's element makes it. -/
theorem fund : BI.own (ER (initOf cells tokens)) ⊢ (|==> bigSep Finset.univ (G m ρ) : sProp 𝕄) := by
  have hX (Φ : GSem nD τ sig → sProp 𝕄) : bigSep cells Φ = bigSep Finset.univ fun c : Dev nD => bigSep Finset.univ fun i : CI => Φ (cell c i) := by
    unfold cells; rw [bigSep_map, bigSep_univ_prod]; rfl
  have hT : bigSep tokens (fun x => (dutyTok ER x.1 x.2.1 x.2.2 : sProp 𝕄)) = bigSep Finset.univ fun c : Dev nD => bigSep Finset.univ fun t : TI => duty c t := by
    unfold tokens; rw [bigSep_map, bigSep_univ_prod]; rfl
  iintro HX
  imod (Rounds.fund ER (sched m ρ) cells tokens) $$ HX with ⟨Hst, Hr, Hat, Htok⟩
  imodintro
  ihave Hst' := (Entails.of_eq (hX fun g => roundState ER (sched m ρ) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-! ## The counters of a device -/

/-- Over a device's cells: the barrier, and the transfers. -/
theorem bigSep_cells (Φ : CI → sProp 𝕄) : bigSep Finset.univ Φ = iprop((bigSep Finset.univ fun x : XI => Φ (some x)) ∗ Φ none) := by
  rw [bigSep_univ_equiv (Equiv.optionEquivSumPUnit.{0} XI).symm, bigSep_univ_sum, bigSep_univ_of_subsingleton PUnit.unit]
  rfl

/-- Over a device's duties: the transfers', and the barrier's two. -/
theorem bigSep_duties (Φ : TI → sProp 𝕄) :
    bigSep Finset.univ Φ = iprop((bigSep Finset.univ fun x : XI => Φ (.inl x)) ∗ Φ (.inr true) ∗ Φ (.inr false)) := by
  rw [bigSep_univ_sum, bigSep_univ_eq_bigSepL [true, false] (by decide) (by decide)]
  rfl

/-- The only semaphore from outside the call is the barrier. -/
theorem unscopedSems0_eq (c : Dev nD) : (unscopedSems0 c : sProp 𝕄) = semVal (barCell c) 0 := by
  unfold unscopedSems0; rw [bigSep_eq_bigSepL_of_eq [SemLoc.reg barS] (by decide +kernel) (by decide)]; rfl

/-- The counters the launch hands a device are its cells'. -/
theorem sems0_eq (c : Dev nD) :
    (iprop(Pipeline.ownSems0 (Ix := Unit) (Name := ℕ) (U := UU) (Lvl := ℕ) (Val := Elt F) (τ := τ) osem c ∗ unscopedSems0 c) : sProp 𝕄)
      = bigSep Finset.univ fun i : CI => semVal (cell c i) 0 := by
  rw [bigSep_cells, unscopedSems0_eq]
  rfl

/-- A device opens the cells of all its semaphores and gets its places in them and the tokens of their duties. -/
theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun i : CI => iprop(∃ κ : ℕ, cellInv ER (sched m ρ) κ (cell c i)))
          ∗ (bigSep Finset.univ fun i : CI => iprop(atPos ER (cell c i) 0 ∅ 0 ∗ reached ER (cell c i) 0)) ∗ bigSep Finset.univ fun t : TI => duty c t) := by
  unfold G
  iintro ⟨Hos, Hus, Hst, Hat, Htok⟩
  ihave Hv := (Entails.of_eq (sems0_eq (F := F) c)) $$ [Hos Hus]
  · isplitl [Hos] <;> iassumption
  imod (show iprop((bigSep Finset.univ fun i : CI => semVal (cell c i) 0) ∗ bigSep Finset.univ fun i : CI => roundState ER (sched m ρ) (cell c i) 0)
      ⊢ (|={Set.univ}=> bigSep Finset.univ fun i : CI => iprop(∃ κ : ℕ, cellInv ER (sched m ρ) κ (cell c i)) : sProp 𝕄) from by
        rw [← bigSep_sep']
        exact (bigSep_mono fun i _ => (Rounds.body_intro ER (sched m ρ) (cell c i)).trans inv_alloc).trans (bigSep_fupd _ _)) $$ [Hv Hst] with Hinv
  · isplitl [Hv] <;> iassumption
  imodintro
  isplitl [Hinv]; · iexact Hinv
  isplitl [Hat]; · iexact Hat
  iexact Htok

/-! ## Every token to the device that pays it -/

/-- Neighbours as a permutation of the devices. -/
def ring (d : Bool) : Dev nD ≃ Dev nD where
  toFun := nb d
  invFun := nb (!d)
  left_inv c := nb_nb' d c
  right_inv c := nb_nb d c

/-- Whose duty of kind `t` a device pays. -/
def payee : TI → (Dev nD ≃ Dev nD)
  | .inl (true, d, _, _) => ring d
  | .inl (false, _, _, _) => Equiv.refl _
  | .inr d => (ring d).symm

/-- What a device keeps: its places, and the tokens of the duties it pays. -/
def kept (c : Dev nD) : sProp 𝕄 :=
  iprop((bigSep Finset.univ fun i : CI => atPos ER (cell c i) 0 ∅ 0) ∗ bigSep Finset.univ fun t : TI => duty (payee t c) t)

/-- The tokens, dealt to their payers. -/
theorem tokens_dealt :
    (bigSep Finset.univ fun c : Dev nD => bigSep Finset.univ fun t : TI => (duty c t : sProp 𝕄))
      = bigSep Finset.univ fun c : Dev nD => bigSep Finset.univ fun t : TI => duty (payee t c) t := by
  rw [bigSep_univ_comm, bigSep_univ_comm fun (c : Dev nD) (t : TI) => (duty (payee t c) t : sProp 𝕄)]
  exact bigSep_congr fun t _ => bigSep_univ_equiv (payee t) fun c => duty c t

/-- What the global step makes of a device's deal. -/
def G' (c : Dev nD) : sProp 𝕄 := iprop((∃ K, records m ρ K) ∗ kept c)

/-- A resource that can be copied may be used in every part of an iterated one. -/
theorem with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

/-- The records and what a device keeps are what the global step makes of its deal. -/
theorem g'_intro (K : Dev nD × CI → ℕ) (c : Dev nD) : iprop(records m ρ K ∗ kept c) ⊢ G' m ρ c := by
  unfold G'
  iintro ⟨#HR, Hk⟩
  isplitr
  · iexists K; iexact HR
  iexact Hk

/-- All devices' cells, places and tokens, regrouped: the records for everybody, and to each device what it keeps. -/
theorem regroup :
    (bigSep Finset.univ fun c : Dev nD => iprop((bigSep Finset.univ fun i : CI => iprop(∃ κ : ℕ, cellInv ER (sched m ρ) κ (cell c i)))
          ∗ (bigSep Finset.univ fun i : CI => iprop(atPos ER (cell c i) 0 ∅ 0 ∗ reached ER (cell c i) 0)) ∗ bigSep Finset.univ fun t : TI => duty c t) : sProp 𝕄)
      ⊢ bigSep Finset.univ (G' m ρ) := by
  rw [bigSep_sep', bigSep_sep', ← bigSep_univ_prod (fun p : Dev nD × CI => iprop(∃ κ : ℕ, cellInv ER (sched m ρ) κ (cell p.1 p.2))),
    bigSep_congr (s := Finset.univ) (fun (c : Dev nD) _ => bigSep_sep' Finset.univ (fun i : CI => (atPos ER (cell c i) 0 ∅ 0 : sProp 𝕄)) (fun i => reached ER (cell c i) 0)),
    bigSep_sep', ← bigSep_univ_prod (fun p : Dev nD × CI => (reached ER (cell p.1 p.2) 0 : sProp 𝕄)), tokens_dealt]
  iintro ⟨HI, ⟨Hat, #HR⟩, Htok⟩
  ihave HK := (BI.bigSep_exists_pi Finset.univ (fun (p : Dev nD × CI) (κ : ℕ) => (cellInv ER (sched m ρ) κ (cell p.1 p.2) : sProp 𝕄))) $$ HI
  icases HK with ⟨%K, #HI⟩
  iapply (with_persistent (R := records m ρ K) fun c _ => g'_intro m ρ K c)
  isplitr
  · unfold records; isplitl; · iexact HI
    iexact HR
  unfold kept
  rw [bigSep_sep']
  isplitl [Hat] <;> iassumption

/-- The global step: every device's counters at once. -/
theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ## The credit dealt at the launch -/

/-- All devices owing their neighbours a piece of a hop, each has the credit of its own. -/
theorem cred_due (d : Bool) (h : Fin 7) (s : Fin 2) (c : Dev nD) :
    (Pipeline.launchCred (fun e => due e d h s) c : sProp 𝕄) ⊢ cred (tallyAt (recvCell c d h s) () N) :=
  Pipeline.launchCred_tallyAt _ (nb d) (nb (!d)) (nb_nb d) (nb_nb' d) () N c

/-- The credit of the hops of a list. -/
theorem cred_owe (l : List (Fin 7)) (hl : l.Nodup) (c : Dev nD) :
    (Pipeline.launchCred (fun e => owe e l) c : sProp 𝕄)
      ⊢ bigSep l.toFinset fun h => four fun d s => cred (tallyAt (recvCell c d h s) () N) := by
  induction l with
  | nil =>
    rw [List.toFinset_nil, bigSep_empty]
    exact Entails.of_eq (Pipeline.launchCred_zero c)
  | cons h l ih =>
    have ins (Φ : Fin 7 → sProp 𝕄) : bigSep (h :: l).toFinset Φ = iprop(Φ h ∗ bigSep l.toFinset Φ) := by
      rw [List.toFinset_cons]
      exact bigSep_insert (by rw [List.mem_toFinset]; exact (List.nodup_cons.mp hl).1)
    rw [ins, show (fun e => owe e (h :: l)) = fun e => owe e l + due e false h 1 + due e true h 1 + due e false h 0 + due e true h 0 from rfl,
      Pipeline.launchCred_add, Pipeline.launchCred_add, Pipeline.launchCred_add, Pipeline.launchCred_add]
    unfold four
    iintro ⟨⟨⟨⟨Hl, H4⟩, H3⟩, H2⟩, H1⟩
    isplitl [H1 H2 H3 H4]
    · isplitl [H1]; · iapply (cred_due true h 0 c); iexact H1
      isplitl [H2]; · iapply (cred_due false h 0 c); iexact H2
      isplitl [H3]; · iapply (cred_due true h 1 c); iexact H3
      iapply (cred_due false h 1 c); iexact H4
    iapply (ih (List.nodup_cons.mp hl).2); iexact Hl

/-- The credit dealt: two units at the barrier, and a piece at every receive semaphore. -/
theorem creds (c : Dev nD) :
    (Pipeline.launchCred O₀ c : sProp 𝕄)
      ⊢ iprop(cred (tallyAt (barCell c) () 2) ∗ bigSep Finset.univ fun h : Fin 7 => four fun d s => cred (tallyAt (recvCell c d h s) () N)) := by
  rw [show (O₀ : Dev nD → CellTallies nD τ sig Unit) = fun e => owe e [0, 1, 2, 3, 4, 5, 6] + tallyAt (barCell (nb true e)) () 1 + tallyAt (barCell (nb false e)) () 1 from rfl,
    Pipeline.launchCred_add, Pipeline.launchCred_add]
  iintro ⟨⟨Hl, H1⟩, H2⟩
  isplitl [H1 H2]
  · rw [show (tallyAt (barCell c) () 2 : CellTallies nD τ sig Unit) = tallyAt (barCell c) () 1 + tallyAt (barCell c) () 1 from (tallyAt_add _ _ 1 1).symm]
    iapply (cred_add _ _).2
    isplitl [H1]
    · iapply (Pipeline.launchCred_tallyAt (SemLoc.reg barS) (nb true) (nb false) (nb_nb true) (nb_nb' true) () 1 c); iexact H1
    iapply (Pipeline.launchCred_tallyAt (SemLoc.reg barS) (nb false) (nb true) (nb_nb false) (nb_nb' false) () 1 c); iexact H2
  iapply (cred_owe [0, 1, 2, 3, 4, 5, 6] (by decide) c); iexact Hl

/-! ## The launch theorem's side conditions -/

/-- Places, tokens and credit, by hop. -/
theorem kept_ready (c : Dev nD) :
    iprop(kept c ∗ cred (tallyAt (barCell c) () 2) ∗ bigSep Finset.univ fun h : Fin 7 => four fun d s => cred (tallyAt (recvCell c d h s) () N))
      ⊢ (iprop(barReady c ∗ bigSep Finset.univ (ready c)) : sProp 𝕄) := by
  have each (h : Fin 7) : iprop((four fun d s => iprop(atPos ER (sendCell c d h s) 0 ∅ 0 ∗ atPos ER (recvCell c d h s) 0 ∅ 0))
      ∗ (four fun d s => iprop(dutyTok ER (sendCell c d h s) 0 false ∗ dutyTok ER (recvCell (nb d c) d h s) 0 false))
      ∗ four fun d s => cred (tallyAt (recvCell c d h s) () N)) ⊢ (ready c h : sProp 𝕄) := by
    unfold ready
    rw [four_sep, four_sep, four_sep]
    unfold four toRecv toSend
    have one (d : Bool) (s : Fin 2) : iprop((atPos ER (sendCell c d h s) 0 ∅ 0 ∗ atPos ER (recvCell c d h s) 0 ∅ 0)
        ∗ (dutyTok ER (sendCell c d h s) 0 false ∗ dutyTok ER (recvCell (nb d c) d h s) 0 false) ∗ cred (tallyAt (recvCell c d h s) () N))
        ⊢ (iprop((atPos ER (recvCell c d h s) 0 ∅ 0 ∗ cred (tallyAt (recvCell c d h s) () N))
          ∗ atPos ER (sendCell c d h s) 0 ∅ 0 ∗ dutyTok ER (sendCell c d h s) 0 false ∗ dutyTok ER (recvCell (nb d c) d h s) 0 false) : sProp 𝕄) := by
      iintro ⟨⟨H1, H2⟩, ⟨H3, H4⟩, H5⟩
      isplitl [H2 H5]; · isplitl [H2] <;> iassumption
      isplitl [H1]; · iexact H1
      isplitl [H3] <;> iassumption
    exact BIClass.sep_mono (one true 0) (BIClass.sep_mono (one false 0) (BIClass.sep_mono (one true 1) (one false 1)))
  have toks : (bigSep Finset.univ fun t : TI => (duty (payee t c) t : sProp 𝕄))
      = iprop((bigSep Finset.univ fun h : Fin 7 => four fun d s => iprop(dutyTok ER (sendCell c d h s) 0 false ∗ dutyTok ER (recvCell (nb d c) d h s) 0 false))
        ∗ dutyTok ER (barCell (nb false c)) 0 true ∗ dutyTok ER (barCell (nb true c)) 0 false) := by
    rw [bigSep_duties, bigSep_transfers]
    rfl
  unfold kept barReady
  rw [bigSep_cells, bigSep_transfers, toks]
  iintro ⟨⟨⟨Hat, Ha⟩, Htk, Ht1, Ht2⟩, Hb, Hc⟩
  isplitl [Ha Ht1 Ht2 Hb]
  · isplitl [Ht1]; · iexact Ht1
    isplitl [Ht2]; · iexact Ht2
    isplitl [Ha] <;> iassumption
  iapply (show _ ⊢ (bigSep Finset.univ (ready c) : sProp 𝕄) from bigSep_mono fun h _ => each h)
  rw [bigSep_sep', bigSep_sep']
  isplitl [Hat]; · iexact Hat
  isplitl [Htk] <;> iassumption

/-- What the launch gives a device is what its program starts from. -/
theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  unfold G'
  iintro ⟨-, Hlev, Hcr, -, ⟨HK, Hk⟩⟩
  ihave Hc := (creds (F := F) c) $$ Hcr
  ihave Hr := (kept_ready (F := F) c) $$ [Hk Hc]
  · isplitl [Hk] <;> iassumption
  imodintro
  unfold start
  isplitl
  · isplitl [HK]; · iexact HK
    isplitl [Hlev]; · iexact Hlev
    iexact Hr
  · iempintro

/-- With the exchange buffers it is what the pipeline's point starts from. -/
theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀
  iintro ⟨Hs, -, HR, HL⟩
  isplitl [Hs]; · iexact Hs
  isplitl [HR]; · iexact HR
  iexact HL

/-- After the point the exchange buffers and all counters, at zero, are given back. -/
theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ m ρ c from rfl, scopedRest0_eq, unscopedSems0_eq]
  unfold Φ₁
  iintro ⟨⟨HR, HL⟩, Hzs, Hz⟩
  isplitl [Hz]; · iexact Hz
  isplitl [Hzs]; · unfold Pipeline.ownSems0; iexact Hzs
  unfold commPts
  isplitl [HR]
  · iexists (landed m ρ true c); iexact HR
  iexists (landed m ρ false c); iexact HL

/-- The staging semaphores are below everything owed. -/
theorem waits (c : Dev nD) : (levAts L lv : sProp 𝕄) ⊢ Pipeline.cellsWaits cfgs (dats m ρ) () 0 c :=
  Pipeline.cellsWaits_intro cfgs (dats m ρ) () 0 c fun w s t => by
    have hO : Above 1 ((dats m ρ 0 c).owed t) := by
      rcases t with ⟨_ | _, ht⟩
      · exact above_O₀ c
      · exact above_zero 1
    exact mayWait c _ 1 (by
      rw [lv_other c _ (by
        revert w s
        decide +kernel)]
      decide) hO

/-! ## The run -/

/-- What a window's array holds in the end. -/
def finalA (c : Dev nD) (w : Fin cfg0.W) : Buf (Elt F) ((cfg0.win w).arr.view.loc (c : Thread nD τ)) := (dats m ρ 0 c).arrAt w cfg0.N

/-- Every device's arrays hold what they are to hold. -/
def QC : PUnit × MemSt nD τ sig (Elt F) → Prop := fun r =>
  ∀ c : Dev nD, ∀ w : Fin cfg0.W, r.2.mem ((cfg0.win w).arr.view.loc (c : Thread nD τ)) = finalA m ρ c w

set_option maxRecDepth 65536 in
/-- The eight devices' programs end, for any float values and from any memory, with every array at its contents and
every counter at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := block_pos0) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund m ρ) $$ HX with HG
      imodintro
      isplitl [HP] <;> iassumption)
    (hglob := glob m ρ)
    (hA := fun _ _ => rfl) (hpf := fun _ k => k.elim0)
    (X := start m ρ) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

end Cert.KernelIdeal.Hops

end
-- ==== Proof.Value.lean ====
module

public import proofs.«01_k».proof.Proof.Launch
public import proofs.«01_k».proof.Proof.Gen.ReferenceIdeal
public import Idealize.ShloMosaic.Lib.StackMember
public import Idealize.ShloMosaic.Lib.ValueLayout
public import Idealize.ShloMosaic.Lib.Layout
public import Idealize.ShloMosaic.Lib.KernelVsHost

/-! # The contents the run ends with, and that over the reals they are the whole product -/

@[expose] public section

noncomputable section

namespace Cert.KernelIdeal.Hops

open Cert.KernelIdeal Cert.KernelIdeal.Gen
open Idealize.ShloMosaic Idealize.ShloMosaic.TcCoe Idealize.ShloMosaic.ValueIdx
open scoped BigOperators

section Arrays

variable {F : FTy → Type} [FloatOps F]
variable (m : (ℓ : Loc nD τ sig) → Buf (Elt F) ℓ) (ρ : Dev nD → PrngReg)

/-- Both coordinates of a whole block's start are zero. -/
theorem start_zero : (![0, 0] : Fin 2 → Nat) = fun _ => 0 := funext fun a => by fin_cases a <;> rfl

/-- The device's block of `A` ends as it began. -/
theorem finalA_arg0 (c : Dev nD) : finalA m ρ c 0 = m ((c.tc : Thread nD τ).loc main_arg0) :=
  (dats (F := F) m ρ 0 c).arrAt_in 0 rfl _

/-- So does its copy of `B`. -/
theorem finalA_arg1 (c : Dev nD) : finalA m ρ c 1 = m ((c.tc : Thread nD τ).loc main_arg1) :=
  (dats (F := F) m ρ 0 c).arrAt_in 1 rfl _

/-- A window's block that is the whole array is read as the array. -/
theorem blk2_read (c : Dev nD) (f : Buf (Elt F) ((win0_2.blk (0 : Fin 1)).view.loc (c : Thread nD τ))) :
    (win0_2.blk (0 : Fin 1)).view.read (Elt F) f = f :=
  Memref.read_access_unit_zero (Elt F) main_v1 (funext fun a => by fin_cases a <;> rfl) _ f

/-- The result array ends as the staged result. -/
theorem finalA_out (c : Dev nD) : finalA m ρ c 2 = outAt m ρ c := by
  rw [← blk2_read c (finalA m ρ c 2)]
  unfold finalA
  rw [show cfg0.N = ((0 : Fin 1) : Fin cfg0.N).val + 1 from rfl, (dats m ρ 0 c).arrAt_succ 2 (0 : Fin 1)]
  rw [show (cfg0.win 2).flush (0 : Fin 1) = true from by decide, if_pos rfl]
  exact View.read_write_univ _ _

/-- The staged block of `A` is the array. -/
theorem xstg_eq (c : Dev nD) : xstg m ρ c = m ((c.tc : Thread nD τ).loc main_arg0) :=
  Memref.read_access_unit_zero (Elt F) main_arg0 (funext fun a => by fin_cases a <;> rfl) _ _

/-- The staged `B` is the array. -/
theorem bstg_eq (c : Dev nD) : bstg m ρ c = m ((c.tc : Thread nD τ).loc main_arg1) :=
  Memref.read_access_unit_zero (Elt F) main_arg1 (funext fun a => by fin_cases a <;> rfl) _ _

/-- The second factor of every product is the array `B`. -/
theorem bv_eq (c : Dev nD) : bv m ρ c = m ((c.tc : Thread nD τ).loc main_arg1) := by
  unfold bv k0_pay1
  rw [bstg_eq]
  exact (shapeCast_self _ _).trans (Memref.readAt_unit_zero (Elt F) _ start_zero _ _)

/-- Where row `r` of a half block stands in the block. -/
def rowIn (d : Bool) (r : Fin 512) : Fin 1024 := ⟨(if d then 0 else 512) + r.val, by have := r.isLt; cases d <;> simp <;> omega⟩

/-- A half block's element, in the array `A` of the device it came from. -/
theorem half_apply (e : Dev nD) (d : Bool) (r k : Fin 512) :
    half m ρ e d (ix3 (0 : Fin 1) r k)
      = (m ((e.tc : Thread nD τ).loc main_arg0) : S1024x512.Idx → Elt F .bf16) (ix2 (rowIn d r) k) := by
  unfold half k0_pay2
  rw [xstg_eq]
  refine (shapeCast_ab_1ab_apply _ _ 0 r k).trans ?_
  rw [shapeCast_self]
  refine congrArg (m ((e.tc : Thread nD τ).loc main_arg0) : S1024x512.Idx → Elt F .bf16) ?_
  funext a
  match a with
  | ⟨0, _⟩ => exact Fin.ext (show (if d then 0 else 512) + 1 * r.val = (if d then 0 else 512) + r.val by rw [Nat.one_mul])
  | ⟨1, _⟩ => exact Fin.ext (show 0 + 1 * k.val = k.val by rw [Nat.one_mul, Nat.zero_add])

end Arrays

/-! ## Over the reals -/

section Reals

variable (m : (ℓ : Loc nD τ sig) → Buf (Elt Ideal) ℓ) (ρ : Dev nD → PrngReg)

/-- Device `e`'s block of `A`, as an array of reals. -/
def argA (e : Dev nD) : FVec Ideal S1024x512 .bf16 := m ((e.tc : Thread nD τ).loc main_arg0)
/-- Device `c`'s copy of `B`, as an array of reals. -/
def argB (c : Dev nD) : FVec Ideal S512x1024 .bf16 := m ((c.tc : Thread nD τ).loc main_arg1)

/-- An element of a half block's product is the sum over the inner axis. -/
theorem prod_apply (c e : Dev nD) (d : Bool) (r : Fin 512) (q : Fin 1024) :
    prod m ρ c e d (ix2 r q)
      = ∑ k : Fin 512, argA m e (ix2 (rowIn d r) k)
          * argB m c (ix2 k q) := by
  unfold prod k0_pay4
  refine (congrFun (matmul_zero_eq_dotGeneral (DotDims.plain 512 512 1024) none _ _) _).trans ?_
  refine (StackMember.dotGeneral_plain_apply none _ _ r q).trans (Finset.sum_congr rfl fun k _ => ?_)
  rw [bv_eq]
  refine congrArg (· * _) ?_
  exact (shapeCast_1ab_ab_apply _ _ r k).trans (half_apply m ρ e d r k)

variable (A : FVec Ideal (⟨2, ![8192, 512]⟩ : Shape) .bf16) (B : FVec Ideal S512x1024 .bf16)

/-- A row of the result is the row of its half block, in its device's block. -/
theorem row_split (i : Fin 8192) (h : i.val / 1024 < 8) (d : Bool) (hd : d = decide (i.val % 1024 < 512))
    (h' : i.val % 512 < 512) : i.val / 1024 * 1024 + (rowIn d ⟨i.val % 512, h'⟩).val = i.val := by
  subst hd
  by_cases hr : i.val % 1024 < 512 <;> simp [rowIn, hr] <;> omega

/-- Every device's result is the product of the whole of `A` with `B`. -/
theorem outAt_eq
    (hA : ∀ c : Dev nD, argA m c = Layout.block (⟨2, ![1024, 512]⟩ : Shape) (⟨2, ![8192, 512]⟩ : Shape) 0 8 c A)
    (hB : ∀ c : Dev nD, argB m c = B) (c : Dev nD) :
    outAt m ρ c = Host.dotGeneral (DotDims.plain 8192 512 1024) none A B := by
  funext i
  obtain ⟨p, q, rfl⟩ : ∃ (p : Fin 8192) (q : Fin 1024), i = ix2 p q := ⟨i 0, i 1, eq_ix2 i⟩
  refine Eq.trans ?_ (StackMember.dotGeneral_plain_apply none A B p q).symm
  have e : inHalf (ix2 p q) = ix2 (⟨p.val % 512, Nat.mod_lt _ (by decide)⟩ : Fin 512) q := by
    funext a
    match a with
    | ⟨0, _⟩ => rfl
    | ⟨1, _⟩ => rfl
  show prod m ρ c (blk (ix2 p q)) (hf (ix2 p q)) (inHalf (ix2 p q)) = _
  rw [e, prod_apply, hA, hB]
  refine Finset.sum_congr rfl fun k _ => congrArg (· * _) ?_
  refine congrArg A ?_
  funext a
  match a with
  | ⟨0, _⟩ => exact Fin.ext (row_split p (blk (ix2 p q)).isLt (hf (ix2 p q)) rfl _)
  | ⟨1, _⟩ => rfl

end Reals

end Cert.KernelIdeal.Hops

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Value
public import Idealize.ShloMosaic.Adequacy
public import Idealize.ShloMosaic.Init

@[expose] public section

noncomputable section

namespace Cert.Proof

open Idealize.ShloMosaic Idealize.SL.Sem Cert.Kernel

/-- The tables of bodies of both readings are one: they have one label, the kernel's, and its body has the same text. -/
theorem table_same : Cert.Kernel.defs₀ (F := Bits) = Cert.KernelIdeal.defs₀ (F := Bits) := by
  unfold Cert.Kernel.defs₀ Cert.KernelIdeal.defs₀
  refine congrArg Defs.onTc (funext fun l => ?_)
  match l with
  | ⟨0, _⟩ => rfl

/-- And the tables with the pipeline's labels. -/
theorem defs_same : Cert.Kernel.defs (F := Bits) = Cert.KernelIdeal.defs (F := Bits) :=
  congrArg (Pipeline.defs _) table_same

/-- The kernel runs to its end on every device: its arguments end unchanged, and every semaphore counter at zero.
    Its program is the text of `KernelIdeal`, whose run is proved at any floats. -/
theorem frame_kernel : Cert.quiescent_Kernel := by
  intro m g _
  have h := (θ_run Cert.KernelIdeal.defs _ _).mono
    (fun _ h => (⟨fun c => ⟨(h.1 c 0).trans (Cert.KernelIdeal.Hops.finalA_arg0 m g c),
      (h.1 c 1).trans (Cert.KernelIdeal.Hops.finalA_arg1 m g c)⟩, h.2⟩ :
        (∀ c : Dev Cert.KernelIdeal.nD, _ = _ ∧ _ = _) ∧ _))
    (Cert.KernelIdeal.Hops.run_main (F := Bits) m g)
  rw [defs_same]
  exact h

/-- The same of the kernel read over the reals. -/
theorem frame_kernelIdeal : Cert.quiescent_KernelIdeal := fun m g _ =>
  (θ_run Cert.KernelIdeal.defs _ _).mono
    (fun _ h => ⟨fun c => ⟨(h.1 c 0).trans (Cert.KernelIdeal.Hops.finalA_arg0 m g c),
      (h.1 c 1).trans (Cert.KernelIdeal.Hops.finalA_arg1 m g c)⟩, h.2⟩)
    (Cert.KernelIdeal.Hops.run_main (F := Ideal) m g)

/-- The reference runs to its end, its arguments unchanged. It declares no semaphore, so every counter is at zero. -/
theorem frame_reference : Cert.quiescent_ReferenceIdeal := fun m g _ =>
  (θ_run Cert.ReferenceIdeal.defs _ _).mono
    (fun r h => ⟨fun c => (h c).2, sem_eq_zero_of_no_sems (by decide) r.2⟩)
    (Cert.ReferenceIdeal.Value.run (F := Ideal) m g)

/-- Over the reals every device's result is the reference's: the whole of `A`, whose blocks the devices hold, times `B`. -/
theorem algebraic : Cert.algebraic_KernelIdeal_ReferenceIdeal := by
  intro m g m' g' _ hagree
  refine ⟨_, ?_, (θ_run Cert.ReferenceIdeal.defs _ _).mono (fun r h => h 0) (Cert.ReferenceIdeal.Value.run (F := Ideal) m' g')⟩
  refine (θ_run Cert.KernelIdeal.defs _ _).mono (fun _ h c => ⟨(h.1 c 2).trans ?_,
    (h.1 c 0).trans (Cert.KernelIdeal.Hops.finalA_arg0 m g c), (h.1 c 1).trans (Cert.KernelIdeal.Hops.finalA_arg1 m g c)⟩)
    (Cert.KernelIdeal.Hops.run_main (F := Ideal) m g)
  rw [Cert.KernelIdeal.Hops.finalA_out]
  exact Cert.KernelIdeal.Hops.outAt_eq m g _ _ (fun e => (hagree e).1) (fun e => (hagree e).2) c

/-- All of the claims. -/
theorem claim : Cert.Claim :=
  ⟨Cert.Kernel.Gen.facts, Cert.KernelIdeal.Gen.facts, Cert.ReferenceIdeal.Gen.facts,
    frame_kernel, frame_kernelIdeal, frame_reference, trivial, algebraic⟩

end Cert.Proof

end
